-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDelta (m : (ℓ : Loc Cert.KernelDelta.nD Cert.KernelDelta.τ Cert.KernelDelta.sig) → Buf (Elt Bits) ℓ) : Prop :=
  True

def Pre_KernelDeltaIdeal (m : (ℓ : Loc Cert.KernelDeltaIdeal.nD Cert.KernelDeltaIdeal.τ Cert.KernelDeltaIdeal.sig) → Buf (Elt Ideal) ℓ) : Prop :=
  True

def Pre_ReferenceDeltaIdeal (m : (ℓ : Loc Cert.ReferenceDeltaIdeal.nD Cert.ReferenceDeltaIdeal.τ Cert.ReferenceDeltaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelDelta [hKernelDelta : Cert.KernelDelta.Facts] : Prop :=
  ∀ (m : (ℓ : Loc Cert.KernelDelta.nD Cert.KernelDelta.τ Cert.KernelDelta.sig) → Buf (Elt Bits) ℓ) (g : Dev Cert.KernelDelta.nD → PrngReg), Pre_KernelDelta m →
    θ_run (Cert.KernelDelta.defs (F := Bits)) (onTc (τ := Cert.KernelDelta.τ) (Cert.KernelDelta.main (F := Bits))) ⟨m, fun _ => 0, g⟩ (fun r => (∀ c : Dev Cert.KernelDelta.nD,
      r.2.mem ((c.tc : Thread Cert.KernelDelta.nD Cert.KernelDelta.τ).loc Cert.KernelDelta.main_arg0) = m ((c.tc : Thread Cert.KernelDelta.nD Cert.KernelDelta.τ).loc Cert.KernelDelta.main_arg0)
      ∧ r.2.mem ((c.tc : Thread Cert.KernelDelta.nD Cert.KernelDelta.τ).loc Cert.KernelDelta.main_arg1) = m ((c.tc : Thread Cert.KernelDelta.nD Cert.KernelDelta.τ).loc Cert.KernelDelta.main_arg1)
      ∧ r.2.mem ((c.tc : Thread Cert.KernelDelta.nD Cert.KernelDelta.τ).loc Cert.KernelDelta.main_arg2) = m ((c.tc : Thread Cert.KernelDelta.nD Cert.KernelDelta.τ).loc Cert.KernelDelta.main_arg2)
      ∧ r.2.mem ((c.tc : Thread Cert.KernelDelta.nD Cert.KernelDelta.τ).loc Cert.KernelDelta.main_arg3) = m ((c.tc : Thread Cert.KernelDelta.nD Cert.KernelDelta.τ).loc Cert.KernelDelta.main_arg3)
      ∧ r.2.mem ((c.tc : Thread Cert.KernelDelta.nD Cert.KernelDelta.τ).loc Cert.KernelDelta.main_arg4) = m ((c.tc : Thread Cert.KernelDelta.nD Cert.KernelDelta.τ).loc Cert.KernelDelta.main_arg4)
      ∧ r.2.mem ((c.tc : Thread Cert.KernelDelta.nD Cert.KernelDelta.τ).loc Cert.KernelDelta.main_arg5) = m ((c.tc : Thread Cert.KernelDelta.nD Cert.KernelDelta.τ).loc Cert.KernelDelta.main_arg5)
      ∧ r.2.mem ((c.tc : Thread Cert.KernelDelta.nD Cert.KernelDelta.τ).loc Cert.KernelDelta.main_arg6) = m ((c.tc : Thread Cert.KernelDelta.nD Cert.KernelDelta.τ).loc Cert.KernelDelta.main_arg6)
      ∧ r.2.mem ((c.tc : Thread Cert.KernelDelta.nD Cert.KernelDelta.τ).loc Cert.KernelDelta.main_arg7) = m ((c.tc : Thread Cert.KernelDelta.nD Cert.KernelDelta.τ).loc Cert.KernelDelta.main_arg7))
      ∧ r.2.sem = fun _ => 0)

def quiescent_KernelDeltaIdeal [hKernelDeltaIdeal : Cert.KernelDeltaIdeal.Facts] : Prop :=
  ∀ (m : (ℓ : Loc Cert.KernelDeltaIdeal.nD Cert.KernelDeltaIdeal.τ Cert.KernelDeltaIdeal.sig) → Buf (Elt Ideal) ℓ) (g : Dev Cert.KernelDeltaIdeal.nD → PrngReg), Pre_KernelDeltaIdeal m →
    θ_run (Cert.KernelDeltaIdeal.defs (F := Ideal)) (onTc (τ := Cert.KernelDeltaIdeal.τ) (Cert.KernelDeltaIdeal.main (F := Ideal))) ⟨m, fun _ => 0, g⟩ (fun r => (∀ c : Dev Cert.KernelDeltaIdeal.nD,
      r.2.mem ((c.tc : Thread Cert.KernelDeltaIdeal.nD Cert.KernelDeltaIdeal.τ).loc Cert.KernelDeltaIdeal.main_arg0) = m ((c.tc : Thread Cert.KernelDeltaIdeal.nD Cert.KernelDeltaIdeal.τ).loc Cert.KernelDeltaIdeal.main_arg0)
      ∧ r.2.mem ((c.tc : Thread Cert.KernelDeltaIdeal.nD Cert.KernelDeltaIdeal.τ).loc Cert.KernelDeltaIdeal.main_arg1) = m ((c.tc : Thread Cert.KernelDeltaIdeal.nD Cert.KernelDeltaIdeal.τ).loc Cert.KernelDeltaIdeal.main_arg1)
      ∧ r.2.mem ((c.tc : Thread Cert.KernelDeltaIdeal.nD Cert.KernelDeltaIdeal.τ).loc Cert.KernelDeltaIdeal.main_arg2) = m ((c.tc : Thread Cert.KernelDeltaIdeal.nD Cert.KernelDeltaIdeal.τ).loc Cert.KernelDeltaIdeal.main_arg2)
      ∧ r.2.mem ((c.tc : Thread Cert.KernelDeltaIdeal.nD Cert.KernelDeltaIdeal.τ).loc Cert.KernelDeltaIdeal.main_arg3) = m ((c.tc : Thread Cert.KernelDeltaIdeal.nD Cert.KernelDeltaIdeal.τ).loc Cert.KernelDeltaIdeal.main_arg3)
      ∧ r.2.mem ((c.tc : Thread Cert.KernelDeltaIdeal.nD Cert.KernelDeltaIdeal.τ).loc Cert.KernelDeltaIdeal.main_arg4) = m ((c.tc : Thread Cert.KernelDeltaIdeal.nD Cert.KernelDeltaIdeal.τ).loc Cert.KernelDeltaIdeal.main_arg4)
      ∧ r.2.mem ((c.tc : Thread Cert.KernelDeltaIdeal.nD Cert.KernelDeltaIdeal.τ).loc Cert.KernelDeltaIdeal.main_arg5) = m ((c.tc : Thread Cert.KernelDeltaIdeal.nD Cert.KernelDeltaIdeal.τ).loc Cert.KernelDeltaIdeal.main_arg5)
      ∧ r.2.mem ((c.tc : Thread Cert.KernelDeltaIdeal.nD Cert.KernelDeltaIdeal.τ).loc Cert.KernelDeltaIdeal.main_arg6) = m ((c.tc : Thread Cert.KernelDeltaIdeal.nD Cert.KernelDeltaIdeal.τ).loc Cert.KernelDeltaIdeal.main_arg6)
      ∧ r.2.mem ((c.tc : Thread Cert.KernelDeltaIdeal.nD Cert.KernelDeltaIdeal.τ).loc Cert.KernelDeltaIdeal.main_arg7) = m ((c.tc : Thread Cert.KernelDeltaIdeal.nD Cert.KernelDeltaIdeal.τ).loc Cert.KernelDeltaIdeal.main_arg7))
      ∧ r.2.sem = fun _ => 0)

def quiescent_ReferenceDeltaIdeal [hReferenceDeltaIdeal : Cert.ReferenceDeltaIdeal.Facts] : Prop :=
  ∀ (m : (ℓ : Loc Cert.ReferenceDeltaIdeal.nD Cert.ReferenceDeltaIdeal.τ Cert.ReferenceDeltaIdeal.sig) → Buf (Elt Ideal) ℓ) (g : Dev Cert.ReferenceDeltaIdeal.nD → PrngReg), Pre_ReferenceDeltaIdeal m →
    θ_run (Cert.ReferenceDeltaIdeal.defs (F := Ideal)) (onTc (τ := Cert.ReferenceDeltaIdeal.τ) (Cert.ReferenceDeltaIdeal.main (F := Ideal))) ⟨m, fun _ => 0, g⟩ (fun r => (∀ c : Dev Cert.ReferenceDeltaIdeal.nD,
      r.2.mem ((c.tc : Thread Cert.ReferenceDeltaIdeal.nD Cert.ReferenceDeltaIdeal.τ).loc Cert.ReferenceDeltaIdeal.main_arg0) = m ((c.tc : Thread Cert.ReferenceDeltaIdeal.nD Cert.ReferenceDeltaIdeal.τ).loc Cert.ReferenceDeltaIdeal.main_arg0)
      ∧ r.2.mem ((c.tc : Thread Cert.ReferenceDeltaIdeal.nD Cert.ReferenceDeltaIdeal.τ).loc Cert.ReferenceDeltaIdeal.main_arg1) = m ((c.tc : Thread Cert.ReferenceDeltaIdeal.nD Cert.ReferenceDeltaIdeal.τ).loc Cert.ReferenceDeltaIdeal.main_arg1)
      ∧ r.2.mem ((c.tc : Thread Cert.ReferenceDeltaIdeal.nD Cert.ReferenceDeltaIdeal.τ).loc Cert.ReferenceDeltaIdeal.main_arg2) = m ((c.tc : Thread Cert.ReferenceDeltaIdeal.nD Cert.ReferenceDeltaIdeal.τ).loc Cert.ReferenceDeltaIdeal.main_arg2)
      ∧ r.2.mem ((c.tc : Thread Cert.ReferenceDeltaIdeal.nD Cert.ReferenceDeltaIdeal.τ).loc Cert.ReferenceDeltaIdeal.main_arg3) = m ((c.tc : Thread Cert.ReferenceDeltaIdeal.nD Cert.ReferenceDeltaIdeal.τ).loc Cert.ReferenceDeltaIdeal.main_arg3)
      ∧ r.2.mem ((c.tc : Thread Cert.ReferenceDeltaIdeal.nD Cert.ReferenceDeltaIdeal.τ).loc Cert.ReferenceDeltaIdeal.main_arg4) = m ((c.tc : Thread Cert.ReferenceDeltaIdeal.nD Cert.ReferenceDeltaIdeal.τ).loc Cert.ReferenceDeltaIdeal.main_arg4)
      ∧ r.2.mem ((c.tc : Thread Cert.ReferenceDeltaIdeal.nD Cert.ReferenceDeltaIdeal.τ).loc Cert.ReferenceDeltaIdeal.main_arg5) = m ((c.tc : Thread Cert.ReferenceDeltaIdeal.nD Cert.ReferenceDeltaIdeal.τ).loc Cert.ReferenceDeltaIdeal.main_arg5)
      ∧ r.2.mem ((c.tc : Thread Cert.ReferenceDeltaIdeal.nD Cert.ReferenceDeltaIdeal.τ).loc Cert.ReferenceDeltaIdeal.main_arg6) = m ((c.tc : Thread Cert.ReferenceDeltaIdeal.nD Cert.ReferenceDeltaIdeal.τ).loc Cert.ReferenceDeltaIdeal.main_arg6)
      ∧ r.2.mem ((c.tc : Thread Cert.ReferenceDeltaIdeal.nD Cert.ReferenceDeltaIdeal.τ).loc Cert.ReferenceDeltaIdeal.main_arg7) = m ((c.tc : Thread Cert.ReferenceDeltaIdeal.nD Cert.ReferenceDeltaIdeal.τ).loc Cert.ReferenceDeltaIdeal.main_arg7))
      ∧ r.2.sem = fun _ => 0)

def preserves_Kernel_KernelIdeal : Prop :=
  True

def algebraic_KernelIdeal_ReferenceIdeal_on_class_columns [hKernelIdeal : Cert.KernelIdeal.Facts] [hReferenceIdeal : Cert.ReferenceIdeal.Facts] [hOn_class_columns : Cert.On_class_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 128]⟩ : Shape).Idx, (Cert.On_class_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v10) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1024, 128]⟩ : Shape).Idx, (Cert.On_class_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v37) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelDelta_KernelDeltaIdeal : Prop :=
  True

def algebraic_KernelDeltaIdeal_ReferenceDeltaIdeal [hKernelDeltaIdeal : Cert.KernelDeltaIdeal.Facts] [hReferenceDeltaIdeal : Cert.ReferenceDeltaIdeal.Facts] : Prop :=
  ∀ (m : (ℓ : Loc Cert.KernelDeltaIdeal.nD Cert.KernelDeltaIdeal.τ Cert.KernelDeltaIdeal.sig) → Buf (Elt Ideal) ℓ) (g : Dev Cert.KernelDeltaIdeal.nD → PrngReg)
    (m' : (ℓ : Loc Cert.ReferenceDeltaIdeal.nD Cert.ReferenceDeltaIdeal.τ Cert.ReferenceDeltaIdeal.sig) → Buf (Elt Ideal) ℓ) (g' : Dev Cert.ReferenceDeltaIdeal.nD → PrngReg), Pre_KernelDeltaIdeal m →
    (∀ c : Dev Cert.KernelDeltaIdeal.nD,
      m' ((c.tc : Thread Cert.ReferenceDeltaIdeal.nD Cert.ReferenceDeltaIdeal.τ).loc Cert.ReferenceDeltaIdeal.main_arg0) = m ((c.tc : Thread Cert.KernelDeltaIdeal.nD Cert.KernelDeltaIdeal.τ).loc Cert.KernelDeltaIdeal.main_arg0)
      ∧ m' ((c.tc : Thread Cert.ReferenceDeltaIdeal.nD Cert.ReferenceDeltaIdeal.τ).loc Cert.ReferenceDeltaIdeal.main_arg1) = m ((c.tc : Thread Cert.KernelDeltaIdeal.nD Cert.KernelDeltaIdeal.τ).loc Cert.KernelDeltaIdeal.main_arg1)
      ∧ m' ((c.tc : Thread Cert.ReferenceDeltaIdeal.nD Cert.ReferenceDeltaIdeal.τ).loc Cert.ReferenceDeltaIdeal.main_arg2) = m ((c.tc : Thread Cert.KernelDeltaIdeal.nD Cert.KernelDeltaIdeal.τ).loc Cert.KernelDeltaIdeal.main_arg2)
      ∧ m' ((c.tc : Thread Cert.ReferenceDeltaIdeal.nD Cert.ReferenceDeltaIdeal.τ).loc Cert.ReferenceDeltaIdeal.main_arg3) = m ((c.tc : Thread Cert.KernelDeltaIdeal.nD Cert.KernelDeltaIdeal.τ).loc Cert.KernelDeltaIdeal.main_arg3)
      ∧ m' ((c.tc : Thread Cert.ReferenceDeltaIdeal.nD Cert.ReferenceDeltaIdeal.τ).loc Cert.ReferenceDeltaIdeal.main_arg4) = m ((c.tc : Thread Cert.KernelDeltaIdeal.nD Cert.KernelDeltaIdeal.τ).loc Cert.KernelDeltaIdeal.main_arg4)
      ∧ m' ((c.tc : Thread Cert.ReferenceDeltaIdeal.nD Cert.ReferenceDeltaIdeal.τ).loc Cert.ReferenceDeltaIdeal.main_arg5) = m ((c.tc : Thread Cert.KernelDeltaIdeal.nD Cert.KernelDeltaIdeal.τ).loc Cert.KernelDeltaIdeal.main_arg5)
      ∧ m' ((c.tc : Thread Cert.ReferenceDeltaIdeal.nD Cert.ReferenceDeltaIdeal.τ).loc Cert.ReferenceDeltaIdeal.main_arg6) = m ((c.tc : Thread Cert.KernelDeltaIdeal.nD Cert.KernelDeltaIdeal.τ).loc Cert.KernelDeltaIdeal.main_arg6)
      ∧ m' ((c.tc : Thread Cert.ReferenceDeltaIdeal.nD Cert.ReferenceDeltaIdeal.τ).loc Cert.ReferenceDeltaIdeal.main_arg7) = m ((c.tc : Thread Cert.KernelDeltaIdeal.nD Cert.KernelDeltaIdeal.τ).loc Cert.KernelDeltaIdeal.main_arg7)) →
    ∃ (v0 : (c : Dev Cert.KernelDeltaIdeal.nD) → Buf (Elt Ideal) ((c.tc : Thread Cert.KernelDeltaIdeal.nD Cert.KernelDeltaIdeal.τ).loc Cert.KernelDeltaIdeal.main_v5)),
      θ_run (Cert.KernelDeltaIdeal.defs (F := Ideal)) (onTc (τ := Cert.KernelDeltaIdeal.τ) (Cert.KernelDeltaIdeal.main (F := Ideal))) ⟨m, fun _ => 0, g⟩ (fun r => ∀ c : Dev Cert.KernelDeltaIdeal.nD,
          r.2.mem ((c.tc : Thread Cert.KernelDeltaIdeal.nD Cert.KernelDeltaIdeal.τ).loc Cert.KernelDeltaIdeal.main_v5) = v0 c
          ∧ r.2.mem ((c.tc : Thread Cert.KernelDeltaIdeal.nD Cert.KernelDeltaIdeal.τ).loc Cert.KernelDeltaIdeal.main_arg0) = m ((c.tc : Thread Cert.KernelDeltaIdeal.nD Cert.KernelDeltaIdeal.τ).loc Cert.KernelDeltaIdeal.main_arg0)
          ∧ r.2.mem ((c.tc : Thread Cert.KernelDeltaIdeal.nD Cert.KernelDeltaIdeal.τ).loc Cert.KernelDeltaIdeal.main_arg1) = m ((c.tc : Thread Cert.KernelDeltaIdeal.nD Cert.KernelDeltaIdeal.τ).loc Cert.KernelDeltaIdeal.main_arg1)
          ∧ r.2.mem ((c.tc : Thread Cert.KernelDeltaIdeal.nD Cert.KernelDeltaIdeal.τ).loc Cert.KernelDeltaIdeal.main_arg2) = m ((c.tc : Thread Cert.KernelDeltaIdeal.nD Cert.KernelDeltaIdeal.τ).loc Cert.KernelDeltaIdeal.main_arg2)
          ∧ r.2.mem ((c.tc : Thread Cert.KernelDeltaIdeal.nD Cert.KernelDeltaIdeal.τ).loc Cert.KernelDeltaIdeal.main_arg3) = m ((c.tc : Thread Cert.KernelDeltaIdeal.nD Cert.KernelDeltaIdeal.τ).loc Cert.KernelDeltaIdeal.main_arg3)
          ∧ r.2.mem ((c.tc : Thread Cert.KernelDeltaIdeal.nD Cert.KernelDeltaIdeal.τ).loc Cert.KernelDeltaIdeal.main_arg4) = m ((c.tc : Thread Cert.KernelDeltaIdeal.nD Cert.KernelDeltaIdeal.τ).loc Cert.KernelDeltaIdeal.main_arg4)
          ∧ r.2.mem ((c.tc : Thread Cert.KernelDeltaIdeal.nD Cert.KernelDeltaIdeal.τ).loc Cert.KernelDeltaIdeal.main_arg5) = m ((c.tc : Thread Cert.KernelDeltaIdeal.nD Cert.KernelDeltaIdeal.τ).loc Cert.KernelDeltaIdeal.main_arg5)
          ∧ r.2.mem ((c.tc : Thread Cert.KernelDeltaIdeal.nD Cert.KernelDeltaIdeal.τ).loc Cert.KernelDeltaIdeal.main_arg6) = m ((c.tc : Thread Cert.KernelDeltaIdeal.nD Cert.KernelDeltaIdeal.τ).loc Cert.KernelDeltaIdeal.main_arg6)
          ∧ r.2.mem ((c.tc : Thread Cert.KernelDeltaIdeal.nD Cert.KernelDeltaIdeal.τ).loc Cert.KernelDeltaIdeal.main_arg7) = m ((c.tc : Thread Cert.KernelDeltaIdeal.nD Cert.KernelDeltaIdeal.τ).loc Cert.KernelDeltaIdeal.main_arg7))
      ∧ θ_run (Cert.ReferenceDeltaIdeal.defs (F := Ideal)) (onTc (τ := Cert.ReferenceDeltaIdeal.τ) (Cert.ReferenceDeltaIdeal.main (F := Ideal))) ⟨m', fun _ => 0, g'⟩ (fun r => ∀ c : Dev Cert.ReferenceDeltaIdeal.nD,
          r.2.mem ((c.tc : Thread Cert.ReferenceDeltaIdeal.nD Cert.ReferenceDeltaIdeal.τ).loc Cert.ReferenceDeltaIdeal.main_v71) = v0 c
          ∧ r.2.mem ((c.tc : Thread Cert.ReferenceDeltaIdeal.nD Cert.ReferenceDeltaIdeal.τ).loc Cert.ReferenceDeltaIdeal.main_arg0) = m' ((c.tc : Thread Cert.ReferenceDeltaIdeal.nD Cert.ReferenceDeltaIdeal.τ).loc Cert.ReferenceDeltaIdeal.main_arg0)
          ∧ r.2.mem ((c.tc : Thread Cert.ReferenceDeltaIdeal.nD Cert.ReferenceDeltaIdeal.τ).loc Cert.ReferenceDeltaIdeal.main_arg1) = m' ((c.tc : Thread Cert.ReferenceDeltaIdeal.nD Cert.ReferenceDeltaIdeal.τ).loc Cert.ReferenceDeltaIdeal.main_arg1)
          ∧ r.2.mem ((c.tc : Thread Cert.ReferenceDeltaIdeal.nD Cert.ReferenceDeltaIdeal.τ).loc Cert.ReferenceDeltaIdeal.main_arg2) = m' ((c.tc : Thread Cert.ReferenceDeltaIdeal.nD Cert.ReferenceDeltaIdeal.τ).loc Cert.ReferenceDeltaIdeal.main_arg2)
          ∧ r.2.mem ((c.tc : Thread Cert.ReferenceDeltaIdeal.nD Cert.ReferenceDeltaIdeal.τ).loc Cert.ReferenceDeltaIdeal.main_arg3) = m' ((c.tc : Thread Cert.ReferenceDeltaIdeal.nD Cert.ReferenceDeltaIdeal.τ).loc Cert.ReferenceDeltaIdeal.main_arg3)
          ∧ r.2.mem ((c.tc : Thread Cert.ReferenceDeltaIdeal.nD Cert.ReferenceDeltaIdeal.τ).loc Cert.ReferenceDeltaIdeal.main_arg4) = m' ((c.tc : Thread Cert.ReferenceDeltaIdeal.nD Cert.ReferenceDeltaIdeal.τ).loc Cert.ReferenceDeltaIdeal.main_arg4)
          ∧ r.2.mem ((c.tc : Thread Cert.ReferenceDeltaIdeal.nD Cert.ReferenceDeltaIdeal.τ).loc Cert.ReferenceDeltaIdeal.main_arg5) = m' ((c.tc : Thread Cert.ReferenceDeltaIdeal.nD Cert.ReferenceDeltaIdeal.τ).loc Cert.ReferenceDeltaIdeal.main_arg5)
          ∧ r.2.mem ((c.tc : Thread Cert.ReferenceDeltaIdeal.nD Cert.ReferenceDeltaIdeal.τ).loc Cert.ReferenceDeltaIdeal.main_arg6) = m' ((c.tc : Thread Cert.ReferenceDeltaIdeal.nD Cert.ReferenceDeltaIdeal.τ).loc Cert.ReferenceDeltaIdeal.main_arg6)
          ∧ r.2.mem ((c.tc : Thread Cert.ReferenceDeltaIdeal.nD Cert.ReferenceDeltaIdeal.τ).loc Cert.ReferenceDeltaIdeal.main_arg7) = m' ((c.tc : Thread Cert.ReferenceDeltaIdeal.nD Cert.ReferenceDeltaIdeal.τ).loc Cert.ReferenceDeltaIdeal.main_arg7))

def Claim : Prop :=
  ∃ (hKernel : Cert.Kernel.Facts) (hKernelIdeal : Cert.KernelIdeal.Facts) (hReferenceIdeal : Cert.ReferenceIdeal.Facts) (hKernelDelta : Cert.KernelDelta.Facts) (hKernelDeltaIdeal : Cert.KernelDeltaIdeal.Facts) (hReferenceDeltaIdeal : Cert.ReferenceDeltaIdeal.Facts) (hOn_class_columns : Cert.On_class_columns.Facts),
    quiescent_Kernel (hKernel := hKernel)
    ∧ quiescent_KernelIdeal (hKernelIdeal := hKernelIdeal)
    ∧ quiescent_ReferenceIdeal (hReferenceIdeal := hReferenceIdeal)
    ∧ quiescent_KernelDelta (hKernelDelta := hKernelDelta)
    ∧ quiescent_KernelDeltaIdeal (hKernelDeltaIdeal := hKernelDeltaIdeal)
    ∧ quiescent_ReferenceDeltaIdeal (hReferenceDeltaIdeal := hReferenceDeltaIdeal)
    ∧ preserves_Kernel_KernelIdeal
    ∧ algebraic_KernelIdeal_ReferenceIdeal_on_class_columns (hKernelIdeal := hKernelIdeal) (hReferenceIdeal := hReferenceIdeal) (hOn_class_columns := hOn_class_columns)
    ∧ preserves_KernelDelta_KernelDeltaIdeal
    ∧ algebraic_KernelDeltaIdeal_ReferenceDeltaIdeal (hKernelDeltaIdeal := hKernelDeltaIdeal) (hReferenceDeltaIdeal := hReferenceDeltaIdeal)
-- ==== On_class_columns.lean ====
abbrev S1024x12544 : Shape := ⟨2, ![1024, 12544]⟩
abbrev S3x12544x1024 : Shape := ⟨3, ![3, 12544, 1024]⟩
abbrev S3x1024 : Shape := ⟨2, ![3, 1024]⟩
abbrev S3x1024x1024 : Shape := ⟨3, ![3, 1024, 1024]⟩
abbrev S3x1024x81 : Shape := ⟨3, ![3, 1024, 81]⟩
abbrev S3x81 : Shape := ⟨2, ![3, 81]⟩
abbrev S1024x128 : Shape := ⟨2, ![1024, 128]⟩
abbrev S_ : Shape := ⟨0, ![]⟩

class Facts : Prop where
  bcast_S_S1024x128 : S_.BroadcastsInDim S1024x128 (![] : Fin 0 → Fin S1024x128.rank)

variable [Facts]

def fn {F : FTy → Type} [FloatOps F] (main_arg0 : FVec F S1024x12544 .bf16) (main_arg1 : FVec F S3x12544x1024 .f32) (main_arg2 : FVec F S3x1024 .f32) (main_arg3 : FVec F S3x1024x1024 .f32) (main_arg4 : FVec F S3x1024 .f32) (main_arg5 : FVec F S3x1024x81 .f32) (main_arg6 : FVec F S3x81 .f32) : IVec S1024x128 1 :=
  let main_v0 : IVec S1024x128 32 := iotaInDim S1024x128 32 1
  let main_c : IVec S_ 32 := constantI S_ 32 81#32
  let main_v1 : IVec S1024x128 32 := broadcastInDim S1024x128 ![] bcast_S_S1024x128 main_c
  let main_v2 : IVec S1024x128 1 := cmpi .slt main_v0 main_v1
  main_v2
-- ==== Kernel.lean ====
abbrev S1024x12544 : Shape := ⟨2, ![1024, 12544]⟩
abbrev S3x12544x1024 : Shape := ⟨3, ![3, 12544, 1024]⟩
abbrev S3x1024 : Shape := ⟨2, ![3, 1024]⟩
abbrev S3x1024x1024 : Shape := ⟨3, ![3, 1024, 1024]⟩
abbrev S3x1024x81 : Shape := ⟨3, ![3, 1024, 81]⟩
abbrev S3x81 : Shape := ⟨2, ![3, 81]⟩
abbrev S_ : Shape := ⟨0, ![]⟩
abbrev S3x1024x128 : Shape := ⟨3, ![3, 1024, 128]⟩
abbrev S128 : Shape := ⟨1, ![128]⟩
abbrev S1x128 : Shape := ⟨2, ![1, 128]⟩
abbrev S3x128 : Shape := ⟨2, ![3, 128]⟩
abbrev S3x1x128 : Shape := ⟨3, ![3, 1, 128]⟩
abbrev S3x1x1024 : Shape := ⟨3, ![3, 1, 1024]⟩
abbrev S1024x128 : Shape := ⟨2, ![1024, 128]⟩
abbrev S256x1792 : Shape := ⟨2, ![256, 1792]⟩
abbrev S1x1792x1024 : Shape := ⟨3, ![1, 1792, 1024]⟩
abbrev S1x1x1024 : Shape := ⟨3, ![1, 1, 1024]⟩
abbrev S1x1024x1024 : Shape := ⟨3, ![1, 1024, 1024]⟩
abbrev S1x1024x128 : Shape := ⟨3, ![1, 1024, 128]⟩
abbrev S1x1x128 : Shape := ⟨3, ![1, 1, 128]⟩
abbrev S256x128 : Shape := ⟨2, ![256, 128]⟩
abbrev S256x1024 : Shape := ⟨2, ![256, 1024]⟩
abbrev S1792x1024 : Shape := ⟨2, ![1792, 1024]⟩
abbrev S1024 : Shape := ⟨1, ![1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 27
  | .vmem => 17
  | .smem => 0
  | _ => 0

abbrev bufTy : (tb : Table) → Fin (tcTables nBuf tb) → BufTy
  | .hbm, ⟨0, _⟩ => ⟨S1024x12544, .bf16⟩
  | .hbm, ⟨1, _⟩ => ⟨S3x12544x1024, .f32⟩
  | .hbm, ⟨2, _⟩ => ⟨S3x1024, .f32⟩
  | .hbm, ⟨3, _⟩ => ⟨S3x1024x1024, .f32⟩
  | .hbm, ⟨4, _⟩ => ⟨S3x1024, .f32⟩
  | .hbm, ⟨5, _⟩ => ⟨S3x1024x81, .f32⟩
  | .hbm, ⟨6, _⟩ => ⟨S3x81, .f32⟩
  | .hbm, ⟨7, _⟩ => ⟨S_, .i32⟩
  | .hbm, ⟨8, _⟩ => ⟨S_, .f32⟩
  | .hbm, ⟨9, _⟩ => ⟨S3x1024x128, .f32⟩
  | .hbm, ⟨10, _⟩ => ⟨S128, .i32⟩
  | .hbm, ⟨11, _⟩ => ⟨S1x128, .i32⟩
  | .hbm, ⟨12, _⟩ => ⟨S_, .i32⟩
  | .hbm, ⟨13, _⟩ => ⟨S1x128, .i32⟩
  | .hbm, ⟨14, _⟩ => ⟨S1x128, .i1⟩
  | .hbm, ⟨15, _⟩ => ⟨S_, .i32⟩
  | .hbm, ⟨16, _⟩ => ⟨S_, .f32⟩
  | .hbm, ⟨17, _⟩ => ⟨S3x128, .f32⟩
  | .hbm, ⟨18, _⟩ => ⟨S_, .f32⟩
  | .hbm, ⟨19, _⟩ => ⟨S_, .f32⟩
  | .hbm, ⟨20, _⟩ => ⟨S3x128, .i1⟩
  | .hbm, ⟨21, _⟩ => ⟨S3x128, .f32⟩
  | .hbm, ⟨22, _⟩ => ⟨S3x128, .f32⟩
  | .hbm, ⟨23, _⟩ => ⟨S3x1x128, .f32⟩
  | .hbm, ⟨24, _⟩ => ⟨S3x1x1024, .f32⟩
  | .hbm, ⟨25, _⟩ => ⟨S3x1x1024, .f32⟩
  | .hbm, ⟨26, _⟩ => ⟨S1024x128, .f32⟩
  | .local _ .vmem, ⟨0, _⟩ => ⟨S256x1792, .bf16⟩
  | .local _ .vmem, ⟨1, _⟩ => ⟨S256x1792, .bf16⟩
  | .local _ .vmem, ⟨2, _⟩ => ⟨S1x1792x1024, .f32⟩
  | .local _ .vmem, ⟨3, _⟩ => ⟨S1x1792x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x128, .f32⟩
  | .local _ .vmem, ⟨11, _⟩ => ⟨S1x1024x128, .f32⟩
  | .local _ .vmem, ⟨12, _⟩ => ⟨S1x1x128, .f32⟩
  | .local _ .vmem, ⟨13, _⟩ => ⟨S1x1x128, .f32⟩
  | .local _ .vmem, ⟨14, _⟩ => ⟨S256x128, .f32⟩
  | .local _ .vmem, ⟨15, _⟩ => ⟨S256x128, .f32⟩
  | .local _ .vmem, ⟨16, _⟩ => ⟨S256x1024, .f32⟩
  | _, _ => ⟨S1024x12544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call1_v0 : Ref sig .tc := ⟨.hbm, 16, rfl⟩
abbrev main_v5 : Ref sig .tc := ⟨.hbm, 17, rfl⟩
abbrev main_cst : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 3, 7], ![false, false, false]⟩

def k0_cond2 (i : grid0.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg1 : BitVec 32 := BitVec.ofNat 32 (i 1).val
  let c0_i32_34 : BitVec 32 := 0#32
  let v57 : BitVec 1 := Scalar.cmpi .eq arg1 c0_i32_34
  let v58 : BitVec 32 := Scalar.extui v57
  let c0_i32_35 : BitVec 32 := 0#32
  let v59 : BitVec 1 := Scalar.cmpi .ne v58 c0_i32_35
  v59

def k0_cond4 (i : grid0.Coords) : BitVec 1 :=
  let arg1 : BitVec 32 := BitVec.ofNat 32 (i 1).val
  let c0_i32_36 : BitVec 32 := 0#32
  let v60 : BitVec 1 := Scalar.cmpi .ne arg1 c0_i32_36
  let v61 : BitVec 32 := Scalar.extui v60
  let c0_i32_37 : BitVec 32 := 0#32
  let v62 : BitVec 1 := Scalar.cmpi .ne v61 c0_i32_37
  v62

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1792x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceIdeal.lean ====
abbrev S1024x12544 : Shape := ⟨2, ![1024, 12544]⟩
abbrev S3x12544x1024 : Shape := ⟨3, ![3, 12544, 1024]⟩
abbrev S3x1024 : Shape := ⟨2, ![3, 1024]⟩
abbrev S3x1024x1024 : Shape := ⟨3, ![3, 1024, 1024]⟩
abbrev S3x1024x81 : Shape := ⟨3, ![3, 1024, 81]⟩
abbrev S3x81 : Shape := ⟨2, ![3, 81]⟩
abbrev S3x1x1024 : Shape := ⟨3, ![3, 1, 1024]⟩
abbrev S_ : Shape := ⟨0, ![]⟩
abbrev S3x1x81 : Shape := ⟨3, ![3, 1, 81]⟩
abbrev S3x1024x1 : Shape := ⟨3, ![3, 1024, 1]⟩
abbrev S1x1024x81 : Shape := ⟨3, ![1, 1024, 81]⟩
abbrev S1024x81 : Shape := ⟨2, ![1024, 81]⟩
abbrev S1024x128 : Shape := ⟨2, ![1024, 128]⟩

abbrev nBuf : Space → Nat
  | .hbm => 55
  | .vmem => 0
  | .smem => 0
  | _ => 0

abbrev bufTy : (tb : Table) → Fin (tcTables nBuf tb) → BufTy
  | .hbm, ⟨0, _⟩ => ⟨S1024x12544, .bf16⟩
  | .hbm, ⟨1, _⟩ => ⟨S3x12544x1024, .f32⟩
  | .hbm, ⟨2, _⟩ => ⟨S3x1024, .f32⟩
  | .hbm, ⟨3, _⟩ => ⟨S3x1024x1024, .f32⟩
  | .hbm, ⟨4, _⟩ => ⟨S3x1024, .f32⟩
  | .hbm, ⟨5, _⟩ => ⟨S3x1024x81, .f32⟩
  | .hbm, ⟨6, _⟩ => ⟨S3x81, .f32⟩
  | .hbm, ⟨7, _⟩ => ⟨S1024x12544, .f32⟩
  | .hbm, ⟨8, _⟩ => ⟨S3x1024x1024, .f32⟩
  | .hbm, ⟨9, _⟩ => ⟨S3x1024x1024, .f32⟩
  | .hbm, ⟨10, _⟩ => ⟨S3x1x1024, .f32⟩
  | .hbm, ⟨11, _⟩ => ⟨S3x1024x1024, .f32⟩
  | .hbm, ⟨12, _⟩ => ⟨S3x1024x1024, .f32⟩
  | .hbm, ⟨13, _⟩ => ⟨S_, .f32⟩
  | .hbm, ⟨14, _⟩ => ⟨S3x1024x1024, .f32⟩
  | .hbm, ⟨15, _⟩ => ⟨S3x1024x1024, .f32⟩
  | .hbm, ⟨16, _⟩ => ⟨S3x1024x1024, .f32⟩
  | .hbm, ⟨17, _⟩ => ⟨S3x1x1024, .f32⟩
  | .hbm, ⟨18, _⟩ => ⟨S3x1024x1024, .f32⟩
  | .hbm, ⟨19, _⟩ => ⟨S3x1024x1024, .f32⟩
  | .hbm, ⟨20, _⟩ => ⟨S_, .f32⟩
  | .hbm, ⟨21, _⟩ => ⟨S3x1024x1024, .f32⟩
  | .hbm, ⟨22, _⟩ => ⟨S3x1024x1024, .f32⟩
  | .hbm, ⟨23, _⟩ => ⟨S3x1024x81, .f32⟩
  | .hbm, ⟨24, _⟩ => ⟨S3x1x81, .f32⟩
  | .hbm, ⟨25, _⟩ => ⟨S3x1024x81, .f32⟩
  | .hbm, ⟨26, _⟩ => ⟨S3x1024x81, .f32⟩
  | .hbm, ⟨27, _⟩ => ⟨S_, .f32⟩
  | .hbm, ⟨28, _⟩ => ⟨S3x1024, .f32⟩
  | .hbm, ⟨29, _⟩ => ⟨S_, .f32⟩
  | .hbm, ⟨30, _⟩ => ⟨S3x1024, .f32⟩
  | .hbm, ⟨31, _⟩ => ⟨S3x1024, .f32⟩
  | .hbm, ⟨32, _⟩ => ⟨S3x1024x1, .f32⟩
  | .hbm, ⟨33, _⟩ => ⟨S3x1024x81, .f32⟩
  | .hbm, ⟨34, _⟩ => ⟨S3x1024x81, .f32⟩
  | .hbm, ⟨35, _⟩ => ⟨S3x1024x81, .f32⟩
  | .hbm, ⟨36, _⟩ => ⟨S_, .f32⟩
  | .hbm, ⟨37, _⟩ => ⟨S3x1024, .f32⟩
  | .hbm, ⟨38, _⟩ => ⟨S3x1024x1, .f32⟩
  | .hbm, ⟨39, _⟩ => ⟨S3x1024x81, .f32⟩
  | .hbm, ⟨40, _⟩ => ⟨S3x1024x81, .f32⟩
  | .hbm, ⟨41, _⟩ => ⟨S1x1024x81, .f32⟩
  | .hbm, ⟨42, _⟩ => ⟨S1024x81, .f32⟩
  | .hbm, ⟨43, _⟩ => ⟨S1x1024x81, .f32⟩
  | .hbm, ⟨44, _⟩ => ⟨S1024x81, .f32⟩
  | .hbm, ⟨45, _⟩ => ⟨S1x1024x81, .f32⟩
  | .hbm, ⟨46, _⟩ => ⟨S1024x81, .f32⟩
  | .hbm, ⟨47, _⟩ => ⟨S1024x81, .f32⟩
  | .hbm, ⟨48, _⟩ => ⟨S1024x81, .f32⟩
  | .hbm, ⟨49, _⟩ => ⟨S_, .f32⟩
  | .hbm, ⟨50, _⟩ => ⟨S1024x81, .f32⟩
  | .hbm, ⟨51, _⟩ => ⟨S1024x81, .f32⟩
  | .hbm, ⟨52, _⟩ => ⟨S_, .i32⟩
  | .hbm, ⟨53, _⟩ => ⟨S_, .f32⟩
  | .hbm, ⟨54, _⟩ => ⟨S1024x128, .f32⟩
  | _, _ => ⟨S1024x12544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_call2_v0 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== KernelDelta.lean ====
abbrev S1024x12544 : Shape := ⟨2, ![1024, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S256x1792 : Shape := ⟨2, ![256, 1792]⟩
abbrev S1792x1024 : Shape := ⟨2, ![1792, 1024]⟩
abbrev S256x4 : Shape := ⟨2, ![256, 4]⟩
abbrev S256x1024 : Shape := ⟨2, ![256, 1024]⟩
abbrev S256x128 : Shape := ⟨2, ![256, 128]⟩
abbrev S256x1 : Shape := ⟨2, ![256, 1]⟩

abbrev nBuf : Space → Nat
  | .hbm => 18
  | .vmem => 14
  | .smem => 0
  | _ => 0

abbrev bufTy : (tb : Table) → Fin (tcTables nBuf tb) → BufTy
  | .hbm, ⟨0, _⟩ => ⟨S1024x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x4, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S1x1024, .f32⟩
  | .hbm, ⟨16, _⟩ => ⟨S1x1024, .f32⟩
  | .hbm, ⟨17, _⟩ => ⟨S1024x4, .f32⟩
  | .local _ .vmem, ⟨0, _⟩ => ⟨S256x1792, .f32⟩
  | .local _ .vmem, ⟨1, _⟩ => ⟨S256x1792, .f32⟩
  | .local _ .vmem, ⟨2, _⟩ => ⟨S1792x1024, .f32⟩
  | .local _ .vmem, ⟨3, _⟩ => ⟨S1792x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1024x128, .f32⟩
  | .local _ .vmem, ⟨8, _⟩ => ⟨S1x128, .f32⟩
  | .local _ .vmem, ⟨9, _⟩ => ⟨S256x4, .f32⟩
  | .local _ .vmem, ⟨10, _⟩ => ⟨S256x4, .f32⟩
  | .local _ .vmem, ⟨11, _⟩ => ⟨S256x4, .f32⟩
  | .local _ .vmem, ⟨12, _⟩ => ⟨S256x4, .f32⟩
  | .local _ .vmem, ⟨13, _⟩ => ⟨S256x1024, .f32⟩
  | _, _ => ⟨S1024x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 7], ![false, false]⟩

def k0_cond2 (i : grid0.Coords) : BitVec 1 :=
  let arg1 : BitVec 32 := BitVec.ofNat 32 (i 1).val
  let c6_i32 : BitVec 32 := 6#32
  let v13 : BitVec 1 := Scalar.cmpi .eq arg1 c6_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceDeltaIdeal.lean ====
abbrev S1024x12544 : Shape := ⟨2, ![1024, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1x1024 : Shape := ⟨2, ![1, 1024]⟩
abbrev S_ : Shape := ⟨0, ![]⟩
abbrev S1x4 : Shape := ⟨2, ![1, 4]⟩
abbrev S1024x1 : Shape := ⟨2, ![1024, 1]⟩

abbrev nBuf : Space → Nat
  | .hbm => 101
  | .vmem => 0
  | .smem => 0
  | _ => 0

abbrev bufTy : (tb : Table) → Fin (tcTables nBuf tb) → BufTy
  | .hbm, ⟨0, _⟩ => ⟨S1024x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x4, .f32⟩
  | .hbm, ⟨8, _⟩ => ⟨S1024x1024, .f32⟩
  | .hbm, ⟨9, _⟩ => ⟨S1x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x4, .f32⟩
  | .hbm, ⟨23, _⟩ => ⟨S1x4, .f32⟩
  | .hbm, ⟨24, _⟩ => ⟨S1024x4, .f32⟩
  | .hbm, ⟨25, _⟩ => ⟨S1024x4, .f32⟩
  | .hbm, ⟨26, _⟩ => ⟨S1024x1, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024x1, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024x1, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024x1, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024x1, .f32⟩
  | .hbm, ⟨47, _⟩ => ⟨S1024, .f32⟩
  | .hbm, ⟨48, _⟩ => ⟨S1024x1, .f32⟩
  | .hbm, ⟨49, _⟩ => ⟨S1024, .f32⟩
  | .hbm, ⟨50, _⟩ => ⟨S1024x1, .f32⟩
  | .hbm, ⟨51, _⟩ => ⟨S1024, .f32⟩
  | .hbm, ⟨52, _⟩ => ⟨S1024x1, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S1024, .f32⟩
  | .hbm, ⟨88, _⟩ => ⟨S1024x1, .f32⟩
  | .hbm, ⟨89, _⟩ => ⟨S1024x1, .f32⟩
  | .hbm, ⟨90, _⟩ => ⟨S1024x1, .f32⟩
  | .hbm, ⟨91, _⟩ => ⟨S1024x1, .f32⟩
  | .hbm, ⟨92, _⟩ => ⟨S1024x4, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S1024x4, .f32⟩
  | .hbm, ⟨97, _⟩ => ⟨S1024x4, .f32⟩
  | .hbm, ⟨98, _⟩ => ⟨S_, .f32⟩
  | .hbm, ⟨99, _⟩ => ⟨S1024x4, .f32⟩
  | .hbm, ⟨100, _⟩ => ⟨S1024x4, .f32⟩
  | _, _ => ⟨S1024x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_cst_10 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Proof.EnsBlock.lean ====
/- The class head's kernel, one grid point at a time: what a point leaves in the carried sum of the first product and
   in the output block, as the body's own arithmetic over the blocks it reads. A point is `21·n + 7·h + k`: row block
   `n`, head `h`, step `k` of the first product. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Ens

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The point before `t` (the first point itself at the first point). -/
abbrev prev (t : Fin cfg0.N) : t.val - 1 < cfg0.N := Nat.lt_of_le_of_lt (Nat.sub_le _ _) t.isLt

/-- The first step of a head resets the carried sum: the point leaves the product of its two blocks over zeros. -/
theorem sum_first (c : Dev nD) (t : Fin cfg0.N) (h0 : t.val % 7 = 0) :
    (outsAt0 m c t.val t.isLt).2 = k0_pay2 k0_pay1 (iblk m c 0 t) (iblk m c 1 t) := by
  rw [outsAt0_A m c t h0 (by omega)]
  frame_out

/-- Every other step adds the product of its two blocks to what the step before left. -/
theorem sum_next (c : Dev nD) (t : Fin cfg0.N) (h0 : ¬ t.val % 7 = 0) :
    (outsAt0 m c t.val t.isLt).2
      = k0_pay2 (outsAt0 m c (t.val - 1) (prev t)).2 (iblk m c 0 t) (iblk m c 1 t) := by
  by_cases h1 : t.val % 7 = 6
  · by_cases h2 : t.val / 7 % 3 = 0
    · rw [outsAt0_C m c t h0 h1 h2 (by omega)]
      frame_out
      simp only [read_unread_whole]
    · rw [outsAt0_D m c t h0 h1 h2 (by omega)]
      frame_out
      simp only [read_unread_whole]
  · rw [outsAt0_B m c t h0 h1]
    frame_out
    simp only [read_unread_whole]

/-- Before a head's last step the output block is left alone. -/
theorem out_idle (c : Dev nD) (t : Fin cfg0.N) (h1 : ¬ t.val % 7 = 6) :
    (outsAt0 m c t.val t.isLt).1
      = (if t.val = 0 then (outsAt0 m c t.val t.isLt).1 else (outsAt0 m c (t.val - 1) (prev t)).1) := by
  split_ifs with hz
  · rfl
  · by_cases h0 : t.val % 7 = 0
    · rw [outsAt0_A m c t h0 h1]
      rfl
    · rw [outsAt0_B m c t h0 h1]
      rfl

/-- The last step of the first head writes its share of the ensemble. -/
theorem out_first (c : Dev nD) (t : Fin cfg0.N) (h1 : t.val % 7 = 6) (h2 : t.val / 7 % 3 = 0) :
    (outsAt0 m c t.val t.isLt).1
      = k0_pay3
          (k0_pay5 (outsAt0 m c t.val t.isLt).2 (iblk m c 2 t) (iblk m c 3 t) (iblk m c 4 t) (iblk m c 5 t)
            (iblk m c 6 t))
          (k0_pay6 (outsAt0 m c t.val t.isLt).2 (iblk m c 2 t) (iblk m c 3 t) (iblk m c 4 t) (iblk m c 5 t)
            (iblk m c 6 t)) := by
  rw [sum_next m c t (by omega), outsAt0_C m c t (by omega) h1 h2 (by omega)]
  frame_out
  simp only [read_unread_whole]

/-- The last step of a later head adds its share of the ensemble to the output block. -/
theorem out_next (c : Dev nD) (t : Fin cfg0.N) (h1 : t.val % 7 = 6) (h2 : ¬ t.val / 7 % 3 = 0) :
    (outsAt0 m c t.val t.isLt).1
      = k0_pay4
          (k0_pay5 (outsAt0 m c t.val t.isLt).2 (iblk m c 2 t) (iblk m c 3 t) (iblk m c 4 t) (iblk m c 5 t)
            (iblk m c 6 t))
          (k0_pay6 (outsAt0 m c t.val t.isLt).2 (iblk m c 2 t) (iblk m c 3 t) (iblk m c 4 t) (iblk m c 5 t)
            (iblk m c 6 t))
          (outsAt0 m c (t.val - 1) (prev t)).1 := by
  rw [sum_next m c t (by omega), outsAt0_D m c t (by omega) h1 h2 (by omega)]
  frame_out
  simp only [read_unread_whole]

end Cert.KernelIdeal.Ens
-- ==== Proof.Scalars.lean ====
/- Facts of extended-real arithmetic the two calls' values rest on: the constants' words, the mask, the blocked product
   and the two ways to divide a mean of softmaxes. -/
module

public import Idealize.ShloMosaic.Lib.Pipeline.ValueKit
public import Idealize.ShloMosaic.Lib.Pointwise

@[expose] public section

set_option maxRecDepth 16384

noncomputable section

namespace Cert.Scalars

open Idealize.ShloMosaic

/-- The word of −∞. -/
theorem negInf_word : Ideal.ofBits .f32 4286578688#32 = ⊥ := by simp [Ideal.ofBits, Ideal.ieee]

/-- The word of 3. -/
theorem three_word : Ideal.ofBits .f32 1077936128#32 = ((3 : ℝ) : EReal) := by
  have h : (BitVec.extractLsb' 31 1 1077936128#32 = 1#1) = False := by simp
  norm_num [Ideal.ofBits, Ideal.ieee, Nat.shiftRight_eq_div_pow, h]

/-- The integer 0 as a float. -/
theorem zero_word : (FloatOps.sitofp .f32 (0#32) : Ideal .f32) = (0 : EReal) := by
  show ((((0#32 : BitVec 32).toInt : ℤ) : ℝ) : EReal) = 0
  simp

/-- The mask of the 81 classes among 128 lanes picks its first operand on the classes and its second past them. -/
theorem class_mask {α : Type} (j : Fin 128) (x y : α) :
    Scalar.select (IntOp.cmpi CmpIPredicate.slt (BitVec.ofNat 32 j.val) 81#32) x y = if j.val < 81 then x else y := by
  have h : IntOp.cmpi CmpIPredicate.slt (BitVec.ofNat 32 j.val) 81#32 = if j.val < 81 then 1#1 else 0#1 := by
    revert j; decide
  rw [h]
  split_ifs
  · rfl
  · rfl

/-- The maximum over the 128 lanes, −∞ past the classes, is the maximum over the 81 classes. -/
theorem fold_max_mask (g : Fin 81 → EReal) :
    (Finset.univ : Finset (Fin 128)).fold max ⊥ (fun j => if h : j.val < 81 then g ⟨j.val, h⟩ else ⊥)
      = (Finset.univ : Finset (Fin 81)).fold max ⊥ g := by
  show (Finset.univ : Finset (Fin 128)).sup _ = (Finset.univ : Finset (Fin 81)).sup g
  apply le_antisymm
  · refine Finset.sup_le fun j _ => ?_
    split_ifs with h
    · exact Finset.le_sup (f := g) (Finset.mem_univ _)
    · exact bot_le
  · refine Finset.sup_le fun j _ => ?_
    have hj : ((⟨j.val, by omega⟩ : Fin 128)).val < 81 := j.isLt
    refine le_trans (le_of_eq ?_) (Finset.le_sup (f := fun j : Fin 128 => if h : j.val < 81 then g ⟨j.val, h⟩ else ⊥)
      (Finset.mem_univ (⟨j.val, by omega⟩ : Fin 128)))
    simp only [dif_pos hj]

/-- A sum over the 128 lanes whose terms vanish past the classes is the sum over the 81 classes. -/
theorem sum_mask (f : Fin 128 → EReal) (g : Fin 81 → EReal) (hg : ∀ j : Fin 81, f ⟨j.val, by omega⟩ = g j)
    (h0 : ∀ j : Fin 128, ¬ j.val < 81 → f j = 0) : ∑ j, f j = ∑ j, g j := by
  have hs := Fin.sum_univ_add (M := EReal) (a := 81) (b := 47) f
  have h1 : ∀ j : Fin 47, f (Fin.natAdd 81 j) = 0 := fun j => h0 _ (by simp)
  refine hs.trans ?_
  simp only [h1, Finset.sum_const_zero, add_zero]
  exact Finset.sum_congr rfl fun j _ => hg j

/-- The exponential is nonnegative. -/
theorem exp_nonneg (x : EReal) : 0 ≤ Ideal.exp x := by
  induction x using EReal.rec with
  | bot => simp
  | coe r => simpa using (Real.exp_pos r).le
  | top => simp

/-- Dividing by three times a sum is dividing by the sum and then by three — also when the sum is 0, where both are −∞. -/
theorem div_three_mul (e s : EReal) (h0 : s = 0 → e = 0) :
    Ideal.div e ((3 : ℝ) * s) = Ideal.div e s * ((3 : ℝ) : EReal)⁻¹ := by
  have h3 : ((3 : ℝ) : EReal)⁻¹ = ((3⁻¹ : ℝ) : EReal) := rfl
  by_cases hs : s = 0
  · rw [h0 hs, hs, mul_zero, h3]
    simp only [Ideal.div, if_pos rfl, lt_irrefl, if_false]
    exact (EReal.bot_mul_coe_of_pos (by norm_num)).symm
  · have hm : ((3 : ℝ) : EReal) * s ≠ 0 := mul_ne_zero (by norm_num) hs
    simp only [Ideal.div, if_neg hm, if_neg hs, EReal.mul_inv]
    rw [mul_comm (((3 : ℝ) : EReal)⁻¹), mul_assoc]

/-- Three softmaxes, each divided by three and added in turn, are their sum, in whichever order, divided by three. -/
theorem mean_of_three (e₀ s₀ e₁ s₁ e₂ s₂ : EReal) (h₀ : s₀ = 0 → e₀ = 0) (h₁ : s₁ = 0 → e₁ = 0) (h₂ : s₂ = 0 → e₂ = 0) :
    Ideal.div e₀ ((3 : ℝ) * s₀) + Ideal.div e₁ ((3 : ℝ) * s₁) + Ideal.div e₂ ((3 : ℝ) * s₂)
      = Ideal.div (Ideal.div e₂ s₂ + Ideal.div e₀ s₀ + Ideal.div e₁ s₁) (3 : ℝ) := by
  have h3 : ((3 : ℝ) : EReal)⁻¹ = ((3⁻¹ : ℝ) : EReal) := rfl
  have hp : (0 : EReal) ≤ ((3⁻¹ : ℝ) : EReal) := EReal.coe_nonneg.2 (by norm_num)
  have hn : ((3 : ℝ) : EReal) ≠ 0 := by norm_num
  rw [div_three_mul _ _ h₀, div_three_mul _ _ h₁, div_three_mul _ _ h₂, show ∀ x, Ideal.div x (3 : ℝ) = x * ((3 : ℝ) : EReal)⁻¹ from
    fun x => if_neg hn, h3, EReal.right_distrib_of_nonneg_of_ne_top hp (EReal.coe_ne_top _),
    EReal.right_distrib_of_nonneg_of_ne_top hp (EReal.coe_ne_top _)]
  ac_rfl

end Cert.Scalars
-- ==== Proof.EnsReads.lean ====
/- What the class head's windows read: each block of a grid point `21·n + 7·h + k`, at an index, as an entry of an
   argument — the padded weights and biases included, whose lanes past the 81 classes hold 0 and −∞. -/
module

public import proofs.«01_k».proof.Proof.EnsBlock
public import proofs.«01_k».proof.Proof.Scalars

@[expose] public section

set_option maxRecDepth 16384

noncomputable section

namespace Cert.KernelIdeal.Ens

open Cert.KernelIdeal Cert.KernelIdeal.Gen Idealize.ShloMosaic Idealize.ShloMosaic.TcCoe Idealize.SL.Sem Cert.Scalars

variable (m : (ℓ : Loc nD τ sig) → Buf (Elt Ideal) ℓ) (c : Dev nD)

/-- Argument 0: the pooled features, a row per region. -/
abbrev X : Vec Ideal S1024x12544 .bf16 := m ((c : Thread nD τ).loc main_arg0)

/-- Argument 1: the first layer's weights per head. -/
abbrev W1 : Vec Ideal S3x12544x1024 .f32 := m ((c : Thread nD τ).loc main_arg1)

/-- Argument 2: the first layer's biases. -/
abbrev B1 : Vec Ideal S3x1024 .f32 := m ((c : Thread nD τ).loc main_arg2)

/-- Argument 3: the second layer's weights. -/
abbrev W2 : Vec Ideal S3x1024x1024 .f32 := m ((c : Thread nD τ).loc main_arg3)

/-- Argument 4: the second layer's biases. -/
abbrev B2 : Vec Ideal S3x1024 .f32 := m ((c : Thread nD τ).loc main_arg4)

/-- Argument 5: the class weights. -/
abbrev Wc : Vec Ideal S3x1024x81 .f32 := m ((c : Thread nD τ).loc main_arg5)

/-- Argument 6: the class biases. -/
abbrev Bc : Vec Ideal S3x81 .f32 := m ((c : Thread nD τ).loc main_arg6)

/-- The printed index maps, decided over the grid: the row block, the head and the step of the first product. -/
theorem idx : ∀ t : Fin cfg0.N, win0_0.index t = ![t.val / 21, t.val % 7]
    ∧ win0_1.index t = ![t.val / 7 % 3, t.val % 7, 0] ∧ win0_2.index t = ![t.val / 7 % 3, 0, 0]
    ∧ win0_3.index t = ![t.val / 7 % 3, 0, 0] ∧ win0_4.index t = ![t.val / 7 % 3, 0, 0]
    ∧ win0_5.index t = ![t.val / 7 % 3, 0, 0] ∧ win0_6.index t = ![t.val / 7 % 3, 0, 0] :=
  (by decide +kernel : ∀ t : Fin grid0.N, _)

/-- A grid point is below 84. -/
theorem pt_lt (t : Fin cfg0.N) : t.val < 84 := lt_of_lt_of_eq t.isLt N_0

/-- The pooled features' block. -/
theorem x_at (t : Fin cfg0.N) (p : Fin 256) (d : Fin 1792) :
    (iblk m c 0 t : Vec Ideal S256x1792 .bf16) (ix2 p d)
      = (X m c)
          (ix2 ⟨t.val / 21 * 256 + p.val, by have := pt_lt t; omega⟩ ⟨t.val % 7 * 1792 + d.val, by omega⟩) := by
  blk_point [iblk, V, idx t]

/-- The first layer's weights: the head's rows of this step. -/
theorem w1_at (t : Fin cfg0.N) (d : Fin 1792) (j : Fin 1024) :
    (iblk m c 1 t : Vec Ideal S1x1792x1024 .f32) (ix3 0 d j)
      = (W1 m c)
          (ix3 ⟨t.val / 7 % 3, by omega⟩ ⟨t.val % 7 * 1792 + d.val, by omega⟩ j) := by
  blk_point [iblk, V, idx t]

/-- The first layer's bias. -/
theorem b1_at (t : Fin cfg0.N) (j : Fin 1024) :
    (iblk m c 2 t : Vec Ideal S1x1x1024 .f32) (ix3 0 0 j)
      = (B1 m c) (ix2 ⟨t.val / 7 % 3, by omega⟩ j) := by
  blk_simp [iblk, V, idx t]
  simp only [hostOps0, hostOps0_1, hostOps0_2, hostOps0_3, hostOps0_4, hostOps0_5, hostOps0_6, List.flatten_cons, List.flatten_nil,
    List.cons_append, List.nil_append, List.append_nil]
  entry_read
  pointwise
  blk_point [iblk, V, idx t]

/-- The second layer's weights. -/
theorem w2_at (t : Fin cfg0.N) (k : Fin 1024) (j : Fin 1024) :
    (iblk m c 3 t : Vec Ideal S1x1024x1024 .f32) (ix3 0 k j)
      = (W2 m c) (ix3 ⟨t.val / 7 % 3, by omega⟩ k j) := by
  blk_point [iblk, V, idx t]

/-- The second layer's bias. -/
theorem b2_at (t : Fin cfg0.N) (j : Fin 1024) :
    (iblk m c 4 t : Vec Ideal S1x1x1024 .f32) (ix3 0 0 j)
      = (B2 m c) (ix2 ⟨t.val / 7 % 3, by omega⟩ j) := by
  blk_simp [iblk, V, idx t]
  simp only [hostOps0, hostOps0_1, hostOps0_2, hostOps0_3, hostOps0_4, hostOps0_5, hostOps0_6, List.flatten_cons, List.flatten_nil,
    List.cons_append, List.nil_append, List.append_nil]
  entry_read
  pointwise
  blk_point [iblk, V, idx t]

/-- The padded class weights as the host leaves them for the region. -/
theorem V_wc : (V m c main_v0 : Vec Ideal S3x1024x128 .f32)
    = pad S3x1024x128 ![0, 0, 0] ![0, 0, 47] ![0, 0, 0] (Wc m c)
        (sitofp (F := Ideal) .f32 (constantI S_ 32 0#32)) pads_S3x1024x81_S3x1024x128_000_000_0470 h_S_ := by
  unfold V
  simp only [hostOps0, hostOps0_1, hostOps0_2, hostOps0_3, hostOps0_4, hostOps0_5, hostOps0_6, List.flatten_cons, List.flatten_nil,
    List.cons_append, List.nil_append, List.append_nil]
  after_results
  try rfl

/-- The padded class biases as the host leaves them for the region. -/
theorem V_bc : (V m c main_v7 : Vec Ideal S3x1x128 .f32)
    = shapeCast S3x1x128 (select
        (broadcastInDim S3x128 ![0, 1] bcast_S1x128_S3x128_0_1
          (cmpi CmpIPredicate.slt (broadcastInDim S1x128 ![1] bcast_S128_S1x128_1 (iotaInDim S128 32 0))
            (broadcastInDim S1x128 ![] bcast_S_S1x128 (constantI S_ 32 81#32))))
        (pad S3x128 ![0, 0] ![0, 47] ![0, 0] (Bc m c)
          (sitofp (F := Ideal) .f32 (constantI S_ 32 0#32)) pads_S3x81_S3x128_000_0470 h_S_)
        (broadcastInDim S3x128 ![] bcast_S_S3x128 (constant (F := Ideal) S_ .f32 0xFF800000#32))) shapeCasts_S3x128_S3x1x128 := by
  unfold V
  simp only [hostOps0, hostOps0_1, hostOps0_2, hostOps0_3, hostOps0_4, hostOps0_5, hostOps0_6, List.flatten_cons, List.flatten_nil,
    List.cons_append, List.nil_append, List.append_nil]
  after_results
  try rfl

/-- The class weights, zero past the 81 classes. -/
theorem wc_at (t : Fin cfg0.N) (k : Fin 1024) (j : Fin 128) :
    (iblk m c 5 t : Vec Ideal S1x1024x128 .f32) (ix3 0 k j)
      = if h : j.val < 81 then
          (Wc m c) (ix3 ⟨t.val / 7 % 3, by omega⟩ k ⟨j.val, h⟩)
        else (0 : EReal) := by
  blk_simp [iblk, idx t]
  rw [V_wc]
  pointwise
  blk_simp [idx t]
  split_ifs
  · blk_ext [idx t]
  · exact zero_word

/-- The class biases, −∞ past the 81 classes. -/
theorem bc_at (t : Fin cfg0.N) (j : Fin 128) :
    (iblk m c 6 t : Vec Ideal S1x1x128 .f32) (ix3 0 0 j)
      = if h : j.val < 81 then
          (Bc m c) (ix2 ⟨t.val / 7 % 3, by omega⟩ ⟨j.val, h⟩)
        else (⊥ : EReal) := by
  blk_simp [iblk, idx t]
  rw [V_bc]
  pointwise
  blk_simp [idx t]
  rw [class_mask j, negInf_word]
  split_ifs
  · blk_ext [idx t]
  · rfl

end Cert.KernelIdeal.Ens
-- ==== Proof.Head.lean ====
/- One box head as plain mathematics on a row: two hidden layers, a linear layer, and the softmax of the class logits. Both
   programs' values are stated with these. -/
module

public import proofs.«01_k».proof.Proof.Scalars

@[expose] public section

noncomputable section

namespace Cert.Head

open Idealize.ShloMosaic Cert.Scalars

/-- A linear layer of one row. -/
def linear {K L : ℕ} (x : Fin K → EReal) (w : Fin K → Fin L → EReal) (b : Fin L → EReal) (j : Fin L) : EReal :=
  ∑ k, x k * w k j + b j

/-- A hidden layer of one row: linear, then the positive part. -/
def hidden {K L : ℕ} (x : Fin K → EReal) (w : Fin K → Fin L → EReal) (b : Fin L → EReal) (j : Fin L) : EReal :=
  max (linear x w b j) 0

/-- A head of one row: two hidden layers and a linear one. -/
def head {K L M N : ℕ} (x : Fin K → EReal) (w₁ : Fin K → Fin L → EReal) (b₁ : Fin L → EReal) (w₂ : Fin L → Fin M → EReal)
    (b₂ : Fin M → EReal) (w₃ : Fin M → Fin N → EReal) (b₃ : Fin N → EReal) : Fin N → EReal :=
  linear (hidden (hidden x w₁ b₁) w₂ b₂) w₃ b₃

/-- The greatest of a row's logits, −∞ for none. -/
def top {N : ℕ} (g : Fin N → EReal) : EReal := Finset.univ.fold max ⊥ g

/-- A logit's exponential less the row's greatest. -/
def weight {N : ℕ} (g : Fin N → EReal) (j : Fin N) : EReal := Ideal.exp (g j - top g)

/-- A row's weights added up. -/
def total {N : ℕ} (g : Fin N → EReal) : EReal := ∑ j, weight g j

/-- The softmax of a row. -/
def softmax {N : ℕ} (g : Fin N → EReal) (j : Fin N) : EReal := Ideal.div (weight g j) (total g)

/-- A row of 81 logits on 128 lanes, −∞ past the classes. -/
def masked (g : Fin 81 → EReal) (j : Fin 128) : EReal := if h : j.val < 81 then g ⟨j.val, h⟩ else ⊥

/-- The mask does not move the greatest logit. -/
theorem top_masked (g : Fin 81 → EReal) : top (masked g) = top g := fold_max_mask g

/-- On the classes the masked row's weights are the row's. -/
theorem weight_masked (g : Fin 81 → EReal) (j : Fin 81) : weight (masked g) ⟨j.val, by omega⟩ = weight g j := by
  unfold weight
  rw [top_masked]
  simp [masked]

/-- Past the classes the masked row weighs nothing. -/
theorem weight_masked_past (g : Fin 81 → EReal) (j : Fin 128) (h : ¬ j.val < 81) : weight (masked g) j = 0 := by
  unfold weight masked
  rw [dif_neg h, EReal.bot_sub, Ideal.exp_bot]

/-- So the masked row's total is the row's. -/
theorem total_masked (g : Fin 81 → EReal) : total (masked g) = total g :=
  sum_mask _ _ (weight_masked g) (weight_masked_past g)

/-- A row whose weights add up to 0 has none. -/
theorem weight_eq_zero {N : ℕ} (g : Fin N → EReal) (j : Fin N) (h : total g = 0) : weight g j = 0 :=
  (Finset.sum_eq_zero_iff_of_nonneg fun i _ => exp_nonneg _).1 h j (Finset.mem_univ j)

/-- Three rows' softmaxes, each divided by three before they are added, are their sum divided by three. -/
theorem mean_softmax {N : ℕ} (g₀ g₁ g₂ : Fin N → EReal) (j : Fin N) :
    Ideal.div (weight g₀ j) ((3 : ℝ) * total g₀) + Ideal.div (weight g₁ j) ((3 : ℝ) * total g₁)
        + Ideal.div (weight g₂ j) ((3 : ℝ) * total g₂)
      = Ideal.div (softmax g₂ j + softmax g₀ j + softmax g₁ j) (3 : ℝ) :=
  mean_of_three _ _ _ _ _ _ (weight_eq_zero g₀ j) (weight_eq_zero g₁ j) (weight_eq_zero g₂ j)

end Cert.Head
-- ==== Proof.EnsValue.lean ====
/- What the class head's kernel computes, over the extended reals: the blocked first product is the whole product, and
   the body's last step turns it into exponentials of masked logits. -/
module

public import proofs.«01_k».proof.Proof.EnsReads
public import proofs.«01_k».proof.Proof.Head

@[expose] public section

set_option maxRecDepth 16384

noncomputable section

namespace Cert.KernelIdeal.Ens

open Cert.KernelIdeal Cert.KernelIdeal.Gen Idealize.ShloMosaic Idealize.ShloMosaic.TcCoe Idealize.SL.Sem Cert.Scalars

variable (m : (ℓ : Loc nD τ sig) → Buf (Elt Ideal) ℓ) (c : Dev nD)

/-- The reset stores zeros. -/
theorem pay1_at (i : S256x1024.Idx) : k0_pay1 (F := Ideal) i = 0 := by pointwise [k0_pay1]

/-- A step adds its blocks' product. -/
theorem pay2_at (a : Vec Ideal S256x1024 .f32) (x : Vec Ideal S256x1792 .bf16) (w : Vec Ideal S1x1792x1024 .f32)
    (i : S256x1024.Idx) :
    k0_pay2 a x w i = a i + ∑ d : Fin 1792, x (ix2 (i 0) d) * w (ix3 0 d (i 1)) := by
  pointwise [k0_pay2]

/-- The first layer's product for head `h`. -/
def lin1 (h : Fin 3) (n : Fin 1024) (j : Fin 1024) : EReal := ∑ l : Fin 12544, X m c (ix2 n l) * W1 m c (ix3 h l j)

/-- The row a block's row `p` is in the whole array, and the head, at point `t`. -/
abbrev row (t : Fin cfg0.N) (p : Fin 256) : Fin 1024 := ⟨t.val / 21 * 256 + p.val, by have := pt_lt t; omega⟩
abbrev head (t : Fin cfg0.N) : Fin 3 := ⟨t.val / 7 % 3, by omega⟩

/-- At a head's last step the carried sum is the whole first product of the block's rows. -/
theorem sum_last (t : Fin cfg0.N) (ht : t.val % 7 = 6) (p : Fin 256) (j : Fin 1024) :
    (outsAt0 m c t.val t.isLt).2 (ix2 p j) = lin1 m c (head t) (row t p) j := by
  rw [Pipeline.eq_sum_fin_of_reset_step_apply_of_flush (fun n h => (outsAt0 m c n h).2) 7 (fun _ => (0 : EReal)) _
    (fun t h i => by rw [sum_first m c t h, pay2_at, pay1_at])
    (fun t h i => by rw [sum_next m c t h, pay2_at]) t ht (ix2 p j), zero_add]
  unfold lin1
  refine Fin.sum_mul_add_congr fun s k hl => ?_
  blk_point [iblk, V, idx t, idx ⟨_, Pipeline.run_point_lt_of_flush t ht s⟩]

/-- The exponentials' payload at an index, over the head of the block's row. -/
theorem pay5_at (s : Vec Ideal S256x1024 .f32) (b1 : Vec Ideal S1x1x1024 .f32) (w2 : Vec Ideal S1x1024x1024 .f32)
    (b2 : Vec Ideal S1x1x1024 .f32) (wc : Vec Ideal S1x1024x128 .f32) (bc : Vec Ideal S1x1x128 .f32) (p : Fin 256) (j : Fin 128) :
    k0_pay5 s b1 w2 b2 wc bc (ix2 p j)
      = Cert.Head.weight (Cert.Head.linear (Cert.Head.hidden (fun k => max (s (ix2 p k) + b1 (ix3 0 0 k)) 0)
          (fun k l => w2 (ix3 0 k l)) (fun l => b2 (ix3 0 0 l))) (fun k l => wc (ix3 0 k l)) (fun l => bc (ix3 0 0 l))) j := by
  pointwise [k0_pay5]
  rw [negInf_word]
  rfl

/-- The row sum of the exponentials. -/
theorem pay6_at (s : Vec Ideal S256x1024 .f32) (b1 : Vec Ideal S1x1x1024 .f32) (w2 : Vec Ideal S1x1024x1024 .f32)
    (b2 : Vec Ideal S1x1x1024 .f32) (wc : Vec Ideal S1x1024x128 .f32) (bc : Vec Ideal S1x1x128 .f32) (p : Fin 256) (j : Fin 1) :
    k0_pay6 s b1 w2 b2 wc bc (ix2 p j) = ∑ l : Fin 128, k0_pay5 s b1 w2 b2 wc bc (ix2 p l) := by
  pointwise [k0_pay6]

/-- A head's share: its exponentials over three times their sum. -/
theorem pay3_at (e : Vec Ideal S256x128 .f32) (s : Vec Ideal S256x1 .f32) (p : Fin 256) (j : Fin 128) :
    k0_pay3 (F := Ideal) e s (ix2 p j) = Ideal.div (e (ix2 p j)) ((3 : ℝ) * s (ix2 p 0)) := by
  pointwise [k0_pay3]
  rw [three_word]

/-- A later head's share is added to the block. -/
theorem pay4_at (e : Vec Ideal S256x128 .f32) (s : Vec Ideal S256x1 .f32) (o : Vec Ideal S256x128 .f32) (p : Fin 256) (j : Fin 128) :
    k0_pay4 (F := Ideal) e s o (ix2 p j) = o (ix2 p j) + k0_pay3 (F := Ideal) e s (ix2 p j) := by
  pointwise [k0_pay4]

/-- The class logits of row `n` under head `h`. -/
def logits (h : Fin 3) (n : Fin 1024) : Fin 81 → EReal :=
  Cert.Head.head (fun l => X m c (ix2 n l)) (fun l j => W1 m c (ix3 h l j)) (fun j => B1 m c (ix2 h j))
    (fun k j => W2 m c (ix3 h k j)) (fun j => B2 m c (ix2 h j)) (fun k j => Wc m c (ix3 h k j)) (fun j => Bc m c (ix2 h j))

/-- At a head's last step the exponentials are the weights of the block's rows, masked past the classes. -/
theorem exps_last (t : Fin cfg0.N) (ht : t.val % 7 = 6) (p : Fin 256) (j : Fin 128) :
    k0_pay5 (outsAt0 m c t.val t.isLt).2 (iblk m c 2 t) (iblk m c 3 t) (iblk m c 4 t) (iblk m c 5 t) (iblk m c 6 t) (ix2 p j)
      = Cert.Head.weight (Cert.Head.masked (logits m c (head t) (row t p))) j := by
  rw [pay5_at]
  congr 1
  funext l
  unfold Cert.Head.linear Cert.Head.masked logits Cert.Head.head
  simp only [sum_last m c t ht, b1_at, w2_at, b2_at, wc_at, bc_at]
  split_ifs with hl
  · rfl
  · simp

/-- So the last step of head `h` brings row `n` the weights of its classes over three times their total. -/
theorem share_last (t : Fin cfg0.N) (ht : t.val % 7 = 6) (p : Fin 256) (j : Fin 128) (hj : j.val < 81) :
    k0_pay3
        (k0_pay5 (outsAt0 m c t.val t.isLt).2 (iblk m c 2 t) (iblk m c 3 t) (iblk m c 4 t) (iblk m c 5 t) (iblk m c 6 t))
        (k0_pay6 (outsAt0 m c t.val t.isLt).2 (iblk m c 2 t) (iblk m c 3 t) (iblk m c 4 t) (iblk m c 5 t) (iblk m c 6 t))
        (ix2 p j)
      = Ideal.div (Cert.Head.weight (logits m c (head t) (row t p)) ⟨j.val, hj⟩)
          ((3 : ℝ) * Cert.Head.total (logits m c (head t) (row t p))) := by
  rw [pay3_at, pay6_at]
  simp only [exps_last m c t ht]
  rw [← Cert.Head.total_masked, ← Cert.Head.weight_masked]
  rfl

end Cert.KernelIdeal.Ens
-- ==== Proof.EnsFinal.lean ====
/- The class head's result: the three heads' shares meet in each output block, and are the mean of the three softmaxes. -/
module

public import proofs.«01_k».proof.Proof.EnsValue

@[expose] public section

set_option maxRecDepth 16384

noncomputable section

namespace Cert.KernelIdeal.Ens

open Cert.KernelIdeal Cert.KernelIdeal.Gen Idealize.ShloMosaic Idealize.ShloMosaic.TcCoe Idealize.SL.Sem Cert.Scalars

variable (m : (ℓ : Loc nD τ sig) → Buf (Elt Ideal) ℓ) (c : Dev nD)

/-- Between two heads' last steps the output block is the one the earlier of them left. -/
theorem out_kept (b : ℕ) (hb : b % 7 = 6) : ∀ (k : ℕ) (hk : k ≤ 6) (h : b + k < cfg0.N),
    (outsAt0 m c (b + k) h).1 = (outsAt0 m c b (by omega)).1
  | 0, _, _ => rfl
  | k + 1, hk, h => by
    have e := out_idle m c ⟨b + k + 1, h⟩ (by dsimp only; omega)
    dsimp only at e
    rw [if_neg (by omega)] at e
    exact e.trans (out_kept b hb k (by omega) (by omega))

/-- A head's share of row `n`, class `j`. -/
def share (h : Fin 3) (n : Fin 1024) (j : Fin 81) : EReal :=
  Ideal.div (Cert.Head.weight (logits m c h n) j) ((3 : ℝ) * Cert.Head.total (logits m c h n))

/-- The first head's last step leaves its share. -/
theorem out_head_first (t : Fin cfg0.N) (h1 : t.val % 7 = 6) (h2 : t.val / 7 % 3 = 0) (p : Fin 256) (j : Fin 81) :
    (outsAt0 m c t.val t.isLt).1 (ix2 p ⟨j.val, by omega⟩) = share m c (head t) (row t p) j := by
  rw [out_first m c t h1 h2, share_last m c t h1 p _ j.isLt]
  rfl

/-- A later head's last step adds its share to what the head before left, seven points earlier. -/
theorem out_head_next (t : Fin cfg0.N) (h1 : t.val % 7 = 6) (h2 : ¬ t.val / 7 % 3 = 0) (p : Fin 256) (j : Fin 81) :
    (outsAt0 m c t.val t.isLt).1 (ix2 p ⟨j.val, by omega⟩)
      = (outsAt0 m c (t.val - 7) (by omega)).1 (ix2 p ⟨j.val, by omega⟩) + share m c (head t) (row t p) j := by
  have hk := out_kept m c (t.val - 7) (by omega) 6 le_rfl (by omega)
  have he : outsAt0 m c (t.val - 1) (prev t) = outsAt0 m c (t.val - 7 + 6) (by omega) := by
    congr 1
    omega
  rw [out_next m c t h1 h2, pay4_at, share_last m c t h1 p _ j.isLt, he, hk]
  rfl

/-- What the last point of a row block's 21 leaves: the three shares in turn. -/
theorem out_last (t : Fin cfg0.N) (ht : t.val % 21 = 20) (p : Fin 256) (j : Fin 81) :
    (outsAt0 m c t.val t.isLt).1 (ix2 p ⟨j.val, by omega⟩)
      = share m c 0 (row t p) j + share m c 1 (row t p) j + share m c 2 (row t p) j := by
  have hN := pt_lt t
  have e2 := out_head_next m c t (by omega) (by omega) p j
  have e1 := out_head_next m c ⟨t.val - 7, by omega⟩ (by dsimp only; omega) (by dsimp only; omega) p j
  have e0 := out_head_first m c ⟨t.val - 7 - 7, by omega⟩ (by dsimp only; omega) (by dsimp only; omega) p j
  have r1 : row ⟨t.val - 7, by omega⟩ p = row t p := Fin.ext (by dsimp only; omega)
  have r0 : row ⟨t.val - 7 - 7, by omega⟩ p = row t p := Fin.ext (by dsimp only; omega)
  have g2 : head t = 2 := Fin.ext (by show t.val / 7 % 3 = 2; omega)
  have g1 : head ⟨t.val - 7, by omega⟩ = 1 := Fin.ext (by show (t.val - 7) / 7 % 3 = 1; omega)
  have g0 : head ⟨t.val - 7 - 7, by omega⟩ = 0 := Fin.ext (by show (t.val - 7 - 7) / 7 % 3 = 0; omega)
  rw [e2, e1, e0, r1, r0, g2, g1, g0]

/-- The result array on the class columns: the mean of the three heads' softmaxes. -/
theorem result_at (n : Fin 1024) (j : Fin 81) :
    Cert.KernelIdeal.Value.G7 m c (ix2 n ⟨j.val, by omega⟩)
      = Ideal.div (Cert.Head.softmax (logits m c 2 n) j + Cert.Head.softmax (logits m c 0 n) j
          + Cert.Head.softmax (logits m c 1 n) j) (3 : ℝ) := by
  rw [← Cert.Head.mean_softmax]
  have hp : Cert.KernelIdeal.Value.pt7Of (ix2 n ⟨j.val, by omega⟩) = 21 * (n.val / 256) + 20 := by
    show 21 * (1 * (n.val / 256 - 0) + 1 * (j.val / 128 - 0)) + 20 = _
    omega
  have hl : 21 * (n.val / 256) + 20 < cfg0.N := lt_of_lt_of_eq (by omega) N_0.symm
  have hr : row ⟨21 * (n.val / 256) + 20, hl⟩ ⟨n.val % 256, by omega⟩ = n := Fin.ext (by dsimp only; omega)
  have e := out_last m c ⟨21 * (n.val / 256) + 20, hl⟩ (by dsimp only; omega) ⟨n.val % 256, by omega⟩ j
  rw [hr, Cert.KernelIdeal.Value.outsAt0_sweep] at e
  unfold Cert.KernelIdeal.Value.G7
  rw [dif_pos (by rw [hp]; exact hl), Cert.KernelIdeal.Value.fold0_congr m c _ _ _ (by rw [Nat.zero_add]; exact hl) hp]
  refine Eq.trans (congrArg _ ?_) e
  funext a
  match a with
  | ⟨0, _⟩ => rfl
  | ⟨1, _⟩ => exact Fin.ext (Nat.mod_eq_of_lt (by show j.val < 128; omega))

end Cert.KernelIdeal.Ens
-- ==== Proof.EnsRef.lean ====
/- The class head's reference at an index: the mean of the three heads' softmaxes, as plain mathematics on the row. -/
module

public import proofs.«01_k».proof.Proof.Gen.ReferenceIdeal.Read
public import proofs.«01_k».proof.Proof.Head

@[expose] public section

set_option maxRecDepth 16384

noncomputable section

namespace Cert.ReferenceIdeal.Ens

open Cert.ReferenceIdeal Cert.ReferenceIdeal.Read Cert.ReferenceIdeal.Gen Idealize.ShloMosaic Idealize.ShloMosaic.TcCoe Idealize.SL.Sem Cert.Scalars

variable (x : Vec Ideal S1024x12544 .bf16) (w1 : Vec Ideal S3x12544x1024 .f32) (b1 : Vec Ideal S3x1024 .f32)
variable (w2 : Vec Ideal S3x1024x1024 .f32) (b2 : Vec Ideal S3x1024 .f32) (wc : Vec Ideal S3x1024x81 .f32) (bc : Vec Ideal S3x81 .f32)

/-- The class logits of row `n` under head `h`. -/
def logits (h : Fin 3) (n : Fin 1024) : Fin 81 → EReal :=
  Cert.Head.head (fun l => x (ix2 n l)) (fun l j => w1 (ix3 h l j)) (fun j => b1 (ix2 h j))
    (fun k j => w2 (ix3 h k j)) (fun j => b2 (ix2 h j)) (fun k j => wc (ix3 h k j)) (fun j => bc (ix2 h j))

/-- The first hidden layer. -/
theorem layer1_at (h : Fin 3) (n : Fin 1024) (j : Fin 1024) :
    val_main_v6 (F := Ideal) x w1 b1 (ix3 h n j)
      = Cert.Head.hidden (fun l => x (ix2 n l)) (fun l j => w1 (ix3 h l j)) (fun j => b1 (ix2 h j)) j := by
  pointwise [val_main_v6, val_main_v5, val_main_v2, val_main_v1, val_main_v0, val_main_v4, val_main_v3, val_main_call0_v0, val_main_call0_cst]
  unfold Cert.Head.hidden Cert.Head.linear
  simp only [mul_comm]

/-- The second hidden layer. -/
theorem layer2_at (h : Fin 3) (n : Fin 1024) (j : Fin 1024) :
    val_main_v11 (F := Ideal) x w1 b1 w2 b2 (ix3 h n j)
      = Cert.Head.hidden (fun k => val_main_v6 (F := Ideal) x w1 b1 (ix3 h n k)) (fun k j => w2 (ix3 h k j)) (fun j => b2 (ix2 h j)) j := by
  pointwise [val_main_v11, val_main_v10, val_main_v7, val_main_v9, val_main_v8, val_main_call1_v0, val_main_call1_cst]
  rfl

/-- The class logits. -/
theorem logits_at (h : Fin 3) (n : Fin 1024) (j : Fin 81) :
    val_main_v15 (F := Ideal) x w1 b1 w2 b2 wc bc (ix3 h n j) = logits x w1 b1 w2 b2 wc bc h n j := by
  have e : val_main_v15 (F := Ideal) x w1 b1 w2 b2 wc bc (ix3 h n j)
      = Cert.Head.linear (fun k => val_main_v11 (F := Ideal) x w1 b1 w2 b2 (ix3 h n k)) (fun k j => wc (ix3 h k j)) (fun j => bc (ix2 h j)) j := by
    pointwise [val_main_v15, val_main_v12, val_main_v14, val_main_v13]
    rfl
  rw [e]
  simp only [layer2_at, layer1_at]
  rfl

/-- A head's weights. -/
theorem weight_at (h : Fin 3) (n : Fin 1024) (j : Fin 81) :
    val_main_v22 (F := Ideal) x w1 b1 w2 b2 wc bc (ix3 h n j) = Cert.Head.weight (logits x w1 b1 w2 b2 wc bc h n) j := by
  pointwise [val_main_v22, val_main_v21, val_main_v20, val_main_v19, val_main_v18, val_main_v17, val_main_cst_0, val_main_v16, val_main_cst]
  simp only [logits_at, negInf_word]
  rw [max_eq_right bot_le]
  rfl

/-- A head's softmax. -/
theorem softmax_at (h : Fin 3) (n : Fin 1024) (j : Fin 81) :
    val_main_v26 (F := Ideal) x w1 b1 w2 b2 wc bc (ix3 h n j) = Cert.Head.softmax (logits x w1 b1 w2 b2 wc bc h n) j := by
  pointwise [val_main_v26, val_main_v25, val_main_v24, val_main_v23, val_main_cst_1]
  simp only [weight_at]
  rfl

/-- The result on the class columns: the mean of the three heads' softmaxes. -/
theorem result_at (n : Fin 1024) (j : Fin 81) :
    val_main_v37 (F := Ideal) x w1 b1 w2 b2 wc bc (ix2 n ⟨j.val, by omega⟩)
      = Ideal.div (Cert.Head.softmax (logits x w1 b1 w2 b2 wc bc 2 n) j + Cert.Head.softmax (logits x w1 b1 w2 b2 wc bc 0 n) j
          + Cert.Head.softmax (logits x w1 b1 w2 b2 wc bc 1 n) j) (3 : ℝ) := by
  pointwise [val_main_v37, val_main_v36, val_main_v35, val_main_cst_2, val_main_v34, val_main_v33, val_main_v32, val_main_v31, val_main_v30, val_main_v29, val_main_v28, val_main_v27]
  simp only [softmax_at]
  rw [three_word]

end Cert.ReferenceIdeal.Ens
-- ==== Proof.EnsClaim.lean ====
/- The class ensemble's two programs meet: both results are the mean of the three heads' softmaxes on the class columns. -/
module

public import proofs.«01_k».proof.Defs
public import proofs.«01_k».proof.Proof.EnsFinal
public import proofs.«01_k».proof.Proof.EnsRef
public import proofs.«01_k».proof.Proof.Gen.KernelIdeal.Frame
public import proofs.«01_k».proof.Proof.Gen.ReferenceIdeal.Run
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The mask's program is well formed. -/
instance maskFacts : Cert.On_class_columns.Facts := ⟨by decide⟩

/-- The mask is set on the first 81 columns. -/
theorem mask_lane {a0 a1 a2 a3 a4 a5 a6} (n : Fin 1024) (j : Fin 128)
    (h : Cert.On_class_columns.fn (F := Ideal) a0 a1 a2 a3 a4 a5 a6 (ix2 n j) = 1#1) : j.val < 81 := by
  have e : IntOp.cmpi CmpIPredicate.slt (BitVec.ofNat 32 j.val) 81#32 = 1#1 := h
  revert e
  clear h
  revert j
  decide

/-- The kernel's result is the reference's wherever the mask is set. -/
theorem ens_eq (m : (ℓ : Loc Cert.KernelIdeal.nD Cert.KernelIdeal.τ Cert.KernelIdeal.sig) → Buf (Elt Ideal) ℓ) (c : Dev Cert.KernelIdeal.nD)
    {a0 a1 a2 a3 a4 a5 a6} (i : (⟨2, ![1024, 128]⟩ : Shape).Idx)
    (h : Cert.On_class_columns.fn (F := Ideal) a0 a1 a2 a3 a4 a5 a6 i = 1#1) :
    Cert.ReferenceIdeal.Read.val_main_v37 (F := Ideal) (Cert.KernelIdeal.Ens.X m c) (Cert.KernelIdeal.Ens.W1 m c)
        (Cert.KernelIdeal.Ens.B1 m c) (Cert.KernelIdeal.Ens.W2 m c) (Cert.KernelIdeal.Ens.B2 m c) (Cert.KernelIdeal.Ens.Wc m c)
        (Cert.KernelIdeal.Ens.Bc m c) i
      = Cert.KernelIdeal.Value.G7 m c i := by
  have hi : i = ix2 (i 0) (i 1) := eq_ix2 i
  rw [hi] at h ⊢
  have hj : (i 1).val < 81 := mask_lane _ _ h
  exact (Cert.ReferenceIdeal.Ens.result_at _ _ _ _ _ _ _ (i 0) ⟨(i 1).val, hj⟩).trans
    (Cert.KernelIdeal.Ens.result_at m c (i 0) ⟨(i 1).val, hj⟩).symm

/-- The two programs' results are equal on the class columns. -/
theorem ensemble : Cert.algebraic_KernelIdeal_ReferenceIdeal_on_class_columns := by
  intro m g m' g' hpre hagree
  refine ⟨Cert.KernelIdeal.Value.G7 m, ?_, ?_⟩
  · exact (θ_run _ _ _).mono (fun r h c => ⟨fun i _ => congrFun (h c).1 i, (h c).2⟩) (Cert.KernelIdeal.Value.run m g)
  · refine (θ_run _ _ _).mono (fun r h c => ⟨fun i hi => ?_, (h c).2⟩) (Cert.ReferenceIdeal.Value.run m' g')
    obtain ⟨h0, h1, h2, h3, h4, h5, h6⟩ := hagree c
    have e := (h c).1.trans (Cert.ReferenceIdeal.Read.val_main_v37_eq m' c)
    rw [h0, h1, h2, h3, h4, h5, h6] at e
    exact (congrFun e i).trans (ens_eq m c i hi)

/-- The reference of the class ensemble runs and leaves its arguments and every counter as it found them. -/
theorem ensemble_reference : Cert.quiescent_ReferenceIdeal := fun m g _ =>
  (θ_run _ _ _).mono (fun _ h => ⟨fun c => (h c).2, sem_eq_zero_of_no_sems rfl _⟩) (Cert.ReferenceIdeal.Value.run m g)

end Cert.Proof
-- ==== Proof.DeltaBlock.lean ====
/- The box refinement's kernel, one grid point at a time: what a point leaves in the carried sum of the first product and,
   at a row block's last step, in the output block. A point is `7·n + k`: row block `n`, step `k` of the first product. -/
module

public import proofs.«01_k».proof.Proof.Gen.KernelDeltaIdeal.Value
public import Idealize.ShloMosaic.Lib.Pipeline.ValueKit
public import Idealize.ShloMosaic.Lib.Pipeline.ReadBack

@[expose] public section

set_option maxRecDepth 16384

noncomputable section

namespace Cert.KernelDeltaIdeal.Delta

open Cert.KernelDeltaIdeal Cert.KernelDeltaIdeal.Gen Idealize.ShloMosaic Idealize.ShloMosaic.TcCoe Idealize.SL.Sem

variable {F : FTy → Type} [FloatOps F]
variable (m : (ℓ : Loc nD τ sig) → Buf (Elt F) ℓ)

/-- The first step of a row block resets the carried sum: the point leaves the product of its two blocks over zeros. -/
theorem sum_first (c : Dev nD) (t : Fin cfg0.N) (h0 : t.val % 7 = 0) :
    (outsAt0 m c t.val t.isLt).2 = k0_pay2 k0_pay1 (iblk m c 0 t) (iblk m c 1 t) := by
  rw [outsAt0_A m c t h0 (by omega)]
  frame_out

/-- Every other step adds the product of its two blocks to what the step before left. -/
theorem sum_next (c : Dev nD) (t : Fin cfg0.N) (h0 : ¬ t.val % 7 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 7 = 6
  · rw [outsAt0_C m c t h0 h1]
    frame_out
    simp only [read_unread_whole]
  · rw [outsAt0_B m c t h0 h1]
    frame_out
    simp only [read_unread_whole]

/-- The boxes a row block's last step writes, from the finished sum `s` and the point's other blocks. -/
def boxes (s : FVec F S256x1024 .f32) (b1 : FVec F S1x1024 .f32) (w2 : FVec F S1024x1024 .f32) (b2 : FVec F S1x1024 .f32)
    (wr : FVec F S1024x128 .f32) (br : FVec F S1x128 .f32) (r : FVec F S256x4 .f32) : FVec F S256x4 .f32 :=
  k0_pay3 (k0_pay4 s b1 w2 b2 wr br) (k0_pay6 r) (k0_pay7 r) (k0_pay8 r) (k0_pay9 r) (k0_pay10 s b1 w2 b2 wr br)
    (Scalar.ofBits .f32 0x3DCCCCCD#32)

/-- The last step writes the boxes of its rows. -/
theorem out_last (c : Dev nD) (t : Fin cfg0.N) (h1 : t.val % 7 = 6) :
    (outsAt0 m c t.val t.isLt).1
      = boxes (outsAt0 m c t.val t.isLt).2 (iblk m c 2 t) (iblk m c 3 t) (iblk m c 4 t) (iblk m c 5 t) (iblk m c 6 t)
          (iblk m c 7 t) := by
  rw [sum_next m c t (by omega), outsAt0_C m c t (by omega) h1]
  unfold boxes
  frame_out
  simp only [read_unread_whole]

end Cert.KernelDeltaIdeal.Delta
-- ==== Proof.DeltaReads.lean ====
/- What the box refinement's windows read: each block of a grid point `7·n + k`, at an index, as an entry of an argument —
   of the padded weights and biases only the four columns that are deltas are read. -/
module

public import proofs.«01_k».proof.Proof.DeltaBlock
public import proofs.«01_k».proof.Proof.Scalars

@[expose] public section

set_option maxRecDepth 16384

noncomputable section

namespace Cert.KernelDeltaIdeal.Delta

open Cert.KernelDeltaIdeal Cert.KernelDeltaIdeal.Gen Idealize.ShloMosaic Idealize.ShloMosaic.TcCoe Idealize.SL.Sem Cert.Scalars

variable (m : (ℓ : Loc nD τ sig) → Buf (Elt Ideal) ℓ) (c : Dev nD)

/-- Argument 0: the pooled features, a row per region. -/
abbrev X : Vec Ideal S1024x12544 .f32 := m ((c : Thread nD τ).loc main_arg0)

/-- Argument 1: the first layer's weights. -/
abbrev W1 : Vec Ideal S12544x1024 .f32 := m ((c : Thread nD τ).loc main_arg1)

/-- Argument 2: the first layer's biases. -/
abbrev B1 : Vec Ideal S1024 .f32 := m ((c : Thread nD τ).loc main_arg2)

/-- Argument 3: the second layer's weights. -/
abbrev W2 : Vec Ideal S1024x1024 .f32 := m ((c : Thread nD τ).loc main_arg3)

/-- Argument 4: the second layer's biases. -/
abbrev B2 : Vec Ideal S1024 .f32 := m ((c : Thread nD τ).loc main_arg4)

/-- Argument 5: the weights of the deltas. -/
abbrev Wr : Vec Ideal S1024x4 .f32 := m ((c : Thread nD τ).loc main_arg5)

/-- Argument 6: the biases of the deltas. -/
abbrev Br : Vec Ideal S4 .f32 := m ((c : Thread nD τ).loc main_arg6)

/-- Argument 7: the boxes, a row per region. -/
abbrev Rois : Vec Ideal S1024x4 .f32 := m ((c : Thread nD τ).loc main_arg7)

/-- The printed index maps, decided over the grid: the row block and the step of the first product. -/
theorem idx : ∀ t : Fin cfg0.N, win0_0.index t = ![t.val / 7, t.val % 7]
    ∧ win0_1.index t = ![t.val % 7, 0] ∧ win0_2.index t = ![0, 0]
    ∧ win0_3.index t = ![0, 0] ∧ win0_4.index t = ![0, 0]
    ∧ win0_5.index t = ![0, 0] ∧ win0_6.index t = ![0, 0] ∧ win0_7.index t = ![t.val / 7, 0] :=
  (by decide +kernel : ∀ t : Fin grid0.N, _)

/-- A grid point is below 28. -/
theorem pt_lt (t : Fin cfg0.N) : t.val < 28 := lt_of_lt_of_eq t.isLt N_0

/-- The row a block's row `p` is in the whole array at point `t`. -/
abbrev row (t : Fin cfg0.N) (p : Fin 256) : Fin 1024 := ⟨t.val / 7 * 256 + p.val, by have := pt_lt t; omega⟩

/-- The first layer's bias. -/
theorem b1_at (t : Fin cfg0.N) (j : Fin 1024) :
    (iblk m c 2 t : Vec Ideal S1x1024 .f32) (ix2 0 j) = (B1 m c) (ix1 j) := by
  blk_simp [iblk, V, idx t]
  simp only [hostOps0, hostOps0_1, hostOps0_2, hostOps0_3, hostOps0_4, List.flatten_cons, List.flatten_nil,
    List.cons_append, List.nil_append, List.append_nil]
  entry_read
  pointwise
  blk_point [iblk, V, idx t]

/-- The second layer's weights. -/
theorem w2_at (t : Fin cfg0.N) (k : Fin 1024) (j : Fin 1024) :
    (iblk m c 3 t : Vec Ideal S1024x1024 .f32) (ix2 k j) = (W2 m c) (ix2 k j) := by
  blk_point [iblk, V, idx t]

/-- The second layer's bias. -/
theorem b2_at (t : Fin cfg0.N) (j : Fin 1024) :
    (iblk m c 4 t : Vec Ideal S1x1024 .f32) (ix2 0 j) = (B2 m c) (ix1 j) := by
  blk_simp [iblk, V, idx t]
  simp only [hostOps0, hostOps0_1, hostOps0_2, hostOps0_3, hostOps0_4, List.flatten_cons, List.flatten_nil,
    List.cons_append, List.nil_append, List.append_nil]
  entry_read
  pointwise
  blk_point [iblk, V, idx t]

/-- The padded weights of the deltas as the host leaves them for the region. -/
theorem V_wr : (V m c main_v0 : Vec Ideal S1024x128 .f32)
    = pad S1024x128 ![0, 0] ![0, 124] ![0, 0] (Wr m c)
        (sitofp (F := Ideal) .f32 (constantI S_ 32 0#32)) pads_S1024x4_S1024x128_000_01240 h_S_ := by
  unfold V
  simp only [hostOps0, hostOps0_1, hostOps0_2, hostOps0_3, hostOps0_4, List.flatten_cons, List.flatten_nil,
    List.cons_append, List.nil_append, List.append_nil]
  after_results
  try rfl

/-- The padded biases of the deltas as the host leaves them for the region. -/
theorem V_br : (V m c main_v2 : Vec Ideal S1x128 .f32)
    = shapeCast S1x128 (pad S128 ![0] ![124] ![0] (Br m c)
        (sitofp (F := Ideal) .f32 (constantI S_ 32 0#32)) pads_S4_S128_01240 h_S_) shapeCasts_S128_S1x128 := by
  unfold V
  simp only [hostOps0, hostOps0_1, hostOps0_2, hostOps0_3, hostOps0_4, List.flatten_cons, List.flatten_nil,
    List.cons_append, List.nil_append, List.append_nil]
  after_results
  try rfl

/-- The deltas' weights on the four columns they stand in. -/
theorem wr_at (t : Fin cfg0.N) (k : Fin 1024) (j : Fin 4) :
    (iblk m c 5 t : Vec Ideal S1024x128 .f32) (ix2 k ⟨j.val, by omega⟩) = (Wr m c) (ix2 k j) := by
  have hj : j.val < 4 := j.isLt
  blk_simp [iblk, idx t]
  rw [V_wr]
  pointwise
  blk_simp [idx t]
  split_ifs with h
  · blk_ext [idx t]
  · exact absurd hj h

/-- The deltas' biases on the four columns they stand in. -/
theorem br_at (t : Fin cfg0.N) (j : Fin 4) :
    (iblk m c 6 t : Vec Ideal S1x128 .f32) (ix2 0 ⟨j.val, by omega⟩) = (Br m c) (ix1 j) := by
  have hj : j.val < 4 := j.isLt
  blk_simp [iblk, idx t]
  rw [V_br]
  pointwise
  blk_simp [idx t]
  split_ifs with h
  · blk_ext [idx t]
  · exact absurd hj h

/-- The boxes' block. -/
theorem rois_at (t : Fin cfg0.N) (p : Fin 256) (j : Fin 4) :
    (iblk m c 7 t : Vec Ideal S256x4 .f32) (ix2 p j) = (Rois m c) (ix2 (row t p) j) := by
  blk_point [iblk, V, idx t]

end Cert.KernelDeltaIdeal.Delta
-- ==== Proof.Box.lean ====
/- The refinement of one box by its four deltas, as plain mathematics. Both programs' values are stated with it. A box is
   (y₁, x₁, y₂, x₂); the four numbers 1/10, 1/5, 1/2 and 1024 are the words both programs hold. -/
module

public import Idealize.ShloMosaic.Lib.Pipeline.ValueKit
public import Idealize.ShloMosaic.Lib.Pointwise

@[expose] public section

noncomputable section

namespace Cert.Box

open Idealize.ShloMosaic

/-- The number 1/2. -/
abbrev half : EReal := Ideal.ofBits .f32 1056964608#32

/-- One axis' new center, from its two edges and its shift. -/
def center (lo hi d : EReal) : EReal :=
  lo + half * (hi - lo) + d * Ideal.ofBits .f32 1036831949#32 * (hi - lo)

/-- Half of one axis' new extent, from its two edges and its scale. -/
def reach (lo hi d : EReal) : EReal :=
  half * ((hi - lo) * Ideal.exp (d * Ideal.ofBits .f32 1045220557#32))

/-- An edge kept within the image. -/
def clip (e : EReal) : EReal := min (Ideal.ofBits .f32 1149239296#32) (max 0 e)

/-- The refined box. -/
def refine (r d : Fin 4 → EReal) (j : Fin 4) : EReal :=
  clip (match j with
    | 0 => center (r 0) (r 2) (d 0) - reach (r 0) (r 2) (d 2)
    | 1 => center (r 1) (r 3) (d 1) - reach (r 1) (r 3) (d 3)
    | 2 => center (r 0) (r 2) (d 0) + reach (r 0) (r 2) (d 2)
    | 3 => center (r 1) (r 3) (d 1) + reach (r 1) (r 3) (d 3))

end Cert.Box
-- ==== Proof.DeltaValue.lean ====
/- What the box refinement's kernel computes, over the extended reals: the blocked first product is the whole product, and
   a row block's last step turns it into the deltas and refines the boxes of its rows by them. -/
module

public import proofs.«01_k».proof.Proof.DeltaReads
public import proofs.«01_k».proof.Proof.Head
public import proofs.«01_k».proof.Proof.Box

@[expose] public section

set_option maxRecDepth 16384

noncomputable section

namespace Cert.KernelDeltaIdeal.Delta

open Cert.KernelDeltaIdeal Cert.KernelDeltaIdeal.Gen Idealize.ShloMosaic Idealize.ShloMosaic.TcCoe Idealize.SL.Sem Cert.Scalars

variable (m : (ℓ : Loc nD τ sig) → Buf (Elt Ideal) ℓ) (c : Dev nD)

/-- The reset stores zeros. -/
theorem pay1_at (i : S256x1024.Idx) : k0_pay1 (F := Ideal) i = 0 := by pointwise [k0_pay1]

/-- A step adds its blocks' product. -/
theorem pay2_at (a : Vec Ideal S256x1024 .f32) (x : Vec Ideal S256x1792 .f32) (w : Vec Ideal S1792x1024 .f32)
    (i : S256x1024.Idx) :
    k0_pay2 a x w i = a i + ∑ d : Fin 1792, x (ix2 (i 0) d) * w (ix2 d (i 1)) := by
  pointwise [k0_pay2]

/-- The first layer's product. -/
def lin1 (n : Fin 1024) (j : Fin 1024) : EReal := ∑ l : Fin 12544, X m c (ix2 n l) * W1 m c (ix2 l j)

/-- At a row block's last step the carried sum is the whole first product of the block's rows. -/
theorem sum_last (t : Fin cfg0.N) (ht : t.val % 7 = 6) (p : Fin 256) (j : Fin 1024) :
    (outsAt0 m c t.val t.isLt).2 (ix2 p j) = lin1 m c (row t p) j := by
  rw [Pipeline.eq_sum_fin_of_reset_step_apply_of_flush (fun n h => (outsAt0 m c n h).2) 7 (fun _ => (0 : EReal)) _
    (fun t h i => by rw [sum_first m c t h, pay2_at, pay1_at])
    (fun t h i => by rw [sum_next m c t h, pay2_at]) t ht (ix2 p j), zero_add]
  unfold lin1
  refine Fin.sum_mul_add_congr fun s k hl => ?_
  blk_point [iblk, V, idx t, idx ⟨_, Pipeline.run_point_lt_of_flush t ht s⟩]

/-- The deltas' payload at an index, over the head of the block's row. -/
theorem pay4_at (s : Vec Ideal S256x1024 .f32) (b1 : Vec Ideal S1x1024 .f32) (w2 : Vec Ideal S1024x1024 .f32)
    (b2 : Vec Ideal S1x1024 .f32) (wr : Vec Ideal S1024x128 .f32) (br : Vec Ideal S1x128 .f32) (p : Fin 256) (j : Fin 128) :
    k0_pay4 s b1 w2 b2 wr br (ix2 p j)
      = Cert.Head.linear (Cert.Head.hidden (fun k => max (s (ix2 p k) + b1 (ix2 0 k)) 0)
          (fun k l => w2 (ix2 k l)) (fun l => b2 (ix2 0 l))) (fun k l => wr (ix2 k l)) (fun l => br (ix2 0 l)) j := by
  pointwise [k0_pay4]
  rfl

/-- The boxes' payload at an index: the refined box, by the row's first four deltas. -/
theorem boxes_at (s : Vec Ideal S256x1024 .f32) (b1 : Vec Ideal S1x1024 .f32) (w2 : Vec Ideal S1024x1024 .f32)
    (b2 : Vec Ideal S1x1024 .f32) (wr : Vec Ideal S1024x128 .f32) (br : Vec Ideal S1x128 .f32) (r : Vec Ideal S256x4 .f32)
    (p : Fin 256) (j : Fin 4) :
    boxes (F := Ideal) s b1 w2 b2 wr br r (ix2 p j)
      = Cert.Box.refine (fun i => r (ix2 p i)) (fun i => k0_pay4 (F := Ideal) s b1 w2 b2 wr br (ix2 p ⟨i.val, by omega⟩)) j := by
  unfold Cert.Box.refine
  match j with
  | 0 | 1 | 2 | 3 =>
    dsimp only
    pointwise [boxes, k0_pay3, k0_pay5, k0_pay6, k0_pay7, k0_pay8, k0_pay9, k0_pay10]
    rfl

/-- The deltas of row `n`. -/
def deltas (n : Fin 1024) : Fin 4 → EReal :=
  Cert.Head.head (fun l => X m c (ix2 n l)) (fun l j => W1 m c (ix2 l j)) (fun j => B1 m c (ix1 j))
    (fun k j => W2 m c (ix2 k j)) (fun j => B2 m c (ix1 j)) (fun k j => Wr m c (ix2 k j)) (fun j => Br m c (ix1 j))

/-- At a row block's last step the first four columns are the deltas of the block's rows. -/
theorem deltas_last (t : Fin cfg0.N) (ht : t.val % 7 = 6) (p : Fin 256) (j : Fin 4) :
    k0_pay4 (outsAt0 m c t.val t.isLt).2 (iblk m c 2 t) (iblk m c 3 t) (iblk m c 4 t) (iblk m c 5 t) (iblk m c 6 t)
        (ix2 p ⟨j.val, by omega⟩)
      = deltas m c (row t p) j := by
  rw [pay4_at]
  unfold Cert.Head.linear deltas Cert.Head.head
  simp only [sum_last m c t ht, b1_at, w2_at, b2_at, wr_at, br_at]
  rfl

/-- So the last step leaves the refined boxes of its rows. -/
theorem boxes_last (t : Fin cfg0.N) (ht : t.val % 7 = 6) (p : Fin 256) (j : Fin 4) :
    (outsAt0 m c t.val t.isLt).1 (ix2 p j)
      = Cert.Box.refine (fun i => Rois m c (ix2 (row t p) i)) (deltas m c (row t p)) j := by
  rw [out_last m c t ht, boxes_at]
  simp only [deltas_last m c t ht, rois_at]

/-- The result array: the refined boxes of all rows. -/
theorem result_at (n : Fin 1024) (j : Fin 4) :
    Cert.KernelDeltaIdeal.Value.G8 m c (ix2 n j)
      = Cert.Box.refine (fun i => Rois m c (ix2 n i)) (deltas m c n) j := by
  have hp : Cert.KernelDeltaIdeal.Value.pt8Of (ix2 n j) = 7 * (n.val / 256) + 6 := by
    show 7 * (1 * (n.val / 256 - 0) + 1 * (j.val / 4 - 0)) + 6 = _
    omega
  have hl : 7 * (n.val / 256) + 6 < cfg0.N := lt_of_lt_of_eq (by omega) N_0.symm
  have hr : row ⟨7 * (n.val / 256) + 6, hl⟩ ⟨n.val % 256, by omega⟩ = n := Fin.ext (by dsimp only; omega)
  have e := boxes_last m c ⟨7 * (n.val / 256) + 6, hl⟩ (by dsimp only; omega) ⟨n.val % 256, by omega⟩ j
  rw [hr, Cert.KernelDeltaIdeal.Value.outsAt0_sweep] at e
  unfold Cert.KernelDeltaIdeal.Value.G8
  rw [dif_pos (by rw [hp]; exact hl), Cert.KernelDeltaIdeal.Value.fold0_congr m c _ _ _ (by rw [Nat.zero_add]; exact hl) hp]
  refine Eq.trans (congrArg _ ?_) e
  funext a
  match a with
  | ⟨0, _⟩ => rfl
  | ⟨1, _⟩ => exact Fin.ext (Nat.mod_eq_of_lt j.isLt)

end Cert.KernelDeltaIdeal.Delta
-- ==== Proof.DeltaRef.lean ====
/- The box refinement's reference at an index: the refined box of the row's head, as plain mathematics on the row. -/
module

public import proofs.«01_k».proof.Proof.Gen.ReferenceDeltaIdeal.Read
public import proofs.«01_k».proof.Proof.Head
public import proofs.«01_k».proof.Proof.Box

@[expose] public section

set_option maxRecDepth 16384

noncomputable section

namespace Cert.ReferenceDeltaIdeal.Delta

open Cert.ReferenceDeltaIdeal Cert.ReferenceDeltaIdeal.Read Cert.ReferenceDeltaIdeal.Gen Idealize.ShloMosaic Idealize.ShloMosaic.TcCoe Idealize.SL.Sem Cert.Scalars

variable (x : Vec Ideal S1024x12544 .f32) (w1 : Vec Ideal S12544x1024 .f32) (b1 : Vec Ideal S1024 .f32)
variable (w2 : Vec Ideal S1024x1024 .f32) (b2 : Vec Ideal S1024 .f32) (wr : Vec Ideal S1024x4 .f32) (br : Vec Ideal S4 .f32)
variable (rois : Vec Ideal S1024x4 .f32)

/-- The deltas of row `n`. -/
def deltas (n : Fin 1024) : Fin 4 → EReal :=
  Cert.Head.head (fun l => x (ix2 n l)) (fun l j => w1 (ix2 l j)) (fun j => b1 (ix1 j))
    (fun k j => w2 (ix2 k j)) (fun j => b2 (ix1 j)) (fun k j => wr (ix2 k j)) (fun j => br (ix1 j))

/-- The first hidden layer. -/
theorem layer1_at (n : Fin 1024) (j : Fin 1024) :
    val_main_v4 (F := Ideal) x w1 b1 (ix2 n j)
      = Cert.Head.hidden (fun l => x (ix2 n l)) (fun l j => w1 (ix2 l j)) (fun j => b1 (ix1 j)) j := by
  pointwise [val_main_v4, val_main_v3, val_main_v2, val_main_v1, val_main_v0, val_main_call0_v0, val_main_call0_cst]
  rfl

/-- The second hidden layer. -/
theorem layer2_at (n : Fin 1024) (j : Fin 1024) :
    val_main_v9 (F := Ideal) x w1 b1 w2 b2 (ix2 n j)
      = Cert.Head.hidden (fun k => val_main_v4 (F := Ideal) x w1 b1 (ix2 n k)) (fun k j => w2 (ix2 k j)) (fun j => b2 (ix1 j)) j := by
  pointwise [val_main_v9, val_main_v8, val_main_v5, val_main_v7, val_main_v6, val_main_call1_v0, val_main_call1_cst]
  rfl

/-- The deltas. -/
theorem deltas_at (n : Fin 1024) (j : Fin 4) :
    val_main_v13 (F := Ideal) x w1 b1 w2 b2 wr br (ix2 n j) = deltas x w1 b1 w2 b2 wr br n j := by
  have e : val_main_v13 (F := Ideal) x w1 b1 w2 b2 wr br (ix2 n j)
      = Cert.Head.linear (fun k => val_main_v9 (F := Ideal) x w1 b1 w2 b2 (ix2 n k)) (fun k j => wr (ix2 k j)) (fun j => br (ix1 j)) j := by
    pointwise [val_main_v13, val_main_v10, val_main_v12, val_main_v11]
    rfl
  rw [e]
  simp only [layer2_at, layer1_at]
  rfl

/-- The new centers' rows. -/
theorem center_y_at (n : Fin 1024) :
    val_main_v44 (F := Ideal) x w1 b1 w2 b2 wr br rois (ix1 n)
      = Cert.Box.center (rois (ix2 n 0)) (rois (ix2 n 2)) (deltas x w1 b1 w2 b2 wr br n 0) := by
  pointwise [val_main_v44, val_main_v43, val_main_v42, val_main_v41, val_main_v40, val_main_v39, val_main_v38, val_main_v35, val_main_v34, val_main_v33, val_main_v32, val_main_v31, val_main_v30, val_main_v17, val_main_v16, val_main_v15, val_main_v14, val_main_cst, val_main_cst_3]
  simp only [deltas_at]
  rfl

/-- The new centers' columns. -/
theorem center_x_at (n : Fin 1024) :
    val_main_v49 (F := Ideal) x w1 b1 w2 b2 wr br rois (ix1 n)
      = Cert.Box.center (rois (ix2 n 1)) (rois (ix2 n 3)) (deltas x w1 b1 w2 b2 wr br n 1) := by
  pointwise [val_main_v49, val_main_v48, val_main_v47, val_main_v46, val_main_v45, val_main_v39, val_main_v38, val_main_v37, val_main_v36, val_main_v35, val_main_v34, val_main_v33, val_main_v32, val_main_v31, val_main_v30, val_main_v21, val_main_v20, val_main_v19, val_main_v18, val_main_cst_0, val_main_cst_4]
  simp only [deltas_at]
  rfl

/-- The new heights' rows. -/
theorem height_at (n : Fin 1024) :
    val_main_v51 (F := Ideal) x w1 b1 w2 b2 wr br rois (ix1 n)
      = (rois (ix2 n 2) - rois (ix2 n 0)) * Ideal.exp (deltas x w1 b1 w2 b2 wr br n 2 * Ideal.ofBits .f32 1045220557#32) := by
  pointwise [val_main_v51, val_main_v50, val_main_v38, val_main_v35, val_main_v34, val_main_v33, val_main_v32, val_main_v31, val_main_v30, val_main_v25, val_main_v24, val_main_v23, val_main_v22, val_main_cst_1]
  simp only [deltas_at]

/-- The new widths' columns. -/
theorem width_at (n : Fin 1024) :
    val_main_v53 (F := Ideal) x w1 b1 w2 b2 wr br rois (ix1 n)
      = (rois (ix2 n 3) - rois (ix2 n 1)) * Ideal.exp (deltas x w1 b1 w2 b2 wr br n 3 * Ideal.ofBits .f32 1045220557#32) := by
  pointwise [val_main_v53, val_main_v52, val_main_v39, val_main_v37, val_main_v36, val_main_v33, val_main_v32, val_main_v29, val_main_v28, val_main_v27, val_main_v26, val_main_cst_2]
  simp only [deltas_at]

/-- The four edges of row `n`, each in its column. -/
theorem edges_at (n : Fin 1024) (j : Fin 4) :
    val_main_v71 (F := Ideal) x w1 b1 w2 b2 wr br rois (ix2 n j)
      = Cert.Box.clip (match j with
          | 0 => val_main_v56 (F := Ideal) x w1 b1 w2 b2 wr br rois (ix1 n)
          | 1 => val_main_v59 (F := Ideal) x w1 b1 w2 b2 wr br rois (ix1 n)
          | 2 => val_main_v62 (F := Ideal) x w1 b1 w2 b2 wr br rois (ix1 n)
          | 3 => val_main_v65 (F := Ideal) x w1 b1 w2 b2 wr br rois (ix1 n)) := by
  match j with
  | 0 | 1 | 2 | 3 =>
    pointwise [val_main_v71, val_main_call2_v4, val_main_call2_v3, val_main_call2_v2, val_main_call2_v1, val_main_call2_v0, val_main_cst_10, val_main_cst_9, val_main_v70, val_main_v69, val_main_v68, val_main_v67, val_main_v66]
    simp only [id_eq]
    pointwise
    rfl

/-- The result: the refined box of row `n`. -/
theorem result_at (n : Fin 1024) (j : Fin 4) :
    val_main_v71 (F := Ideal) x w1 b1 w2 b2 wr br rois (ix2 n j)
      = Cert.Box.refine (fun i => rois (ix2 n i)) (deltas x w1 b1 w2 b2 wr br n) j := by
  rw [edges_at]
  unfold Cert.Box.refine
  match j with
  | 0 | 1 | 2 | 3 =>
    dsimp only
    pointwise [val_main_v56, val_main_v55, val_main_v54, val_main_cst_5, val_main_v59, val_main_v58, val_main_v57, val_main_cst_6,
      val_main_v62, val_main_v61, val_main_v60, val_main_cst_7, val_main_v65, val_main_v64, val_main_v63, val_main_cst_8]
    simp only [center_y_at, center_x_at, height_at, width_at]
    rfl

end Cert.ReferenceDeltaIdeal.Delta
-- ==== Proof.DeltaClaim.lean ====
/- The box refinement's two programs meet: both results are the refined boxes. -/
module

public import proofs.«01_k».proof.Defs
public import proofs.«01_k».proof.Proof.DeltaValue
public import proofs.«01_k».proof.Proof.DeltaRef
public import proofs.«01_k».proof.Proof.Gen.KernelDeltaIdeal.Frame
public import proofs.«01_k».proof.Proof.Gen.ReferenceDeltaIdeal.Run
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The kernel's result is the reference's. -/
theorem delta_eq (m : (ℓ : Loc Cert.KernelDeltaIdeal.nD Cert.KernelDeltaIdeal.τ Cert.KernelDeltaIdeal.sig) → Buf (Elt Ideal) ℓ)
    (c : Dev Cert.KernelDeltaIdeal.nD) :
    Cert.ReferenceDeltaIdeal.Read.val_main_v71 (F := Ideal) (Cert.KernelDeltaIdeal.Delta.X m c) (Cert.KernelDeltaIdeal.Delta.W1 m c)
        (Cert.KernelDeltaIdeal.Delta.B1 m c) (Cert.KernelDeltaIdeal.Delta.W2 m c) (Cert.KernelDeltaIdeal.Delta.B2 m c)
        (Cert.KernelDeltaIdeal.Delta.Wr m c) (Cert.KernelDeltaIdeal.Delta.Br m c) (Cert.KernelDeltaIdeal.Delta.Rois m c)
      = Cert.KernelDeltaIdeal.Value.G8 m c := by
  funext i
  have hi : i = ix2 (i 0) (i 1) := eq_ix2 i
  rw [hi]
  exact (Cert.ReferenceDeltaIdeal.Delta.result_at _ _ _ _ _ _ _ _ (i 0) (i 1)).trans
    (Cert.KernelDeltaIdeal.Delta.result_at m c (i 0) (i 1)).symm

/-- The two programs' results are equal. -/
theorem refinement : Cert.algebraic_KernelDeltaIdeal_ReferenceDeltaIdeal := by
  intro m g m' g' hpre hagree
  refine ⟨Cert.KernelDeltaIdeal.Value.G8 m, Cert.KernelDeltaIdeal.Value.run m g, ?_⟩
  refine (θ_run _ _ _).mono (fun r h c => ⟨?_, (h c).2⟩) (Cert.ReferenceDeltaIdeal.Value.run m' g')
  obtain ⟨h0, h1, h2, h3, h4, h5, h6, h7⟩ := hagree c
  have e := (h c).1.trans (Cert.ReferenceDeltaIdeal.Read.val_main_v71_eq m' c)
  rw [h0, h1, h2, h3, h4, h5, h6, h7] at e
  exact e.trans (delta_eq m c)

/-- The reference of the box refinement runs and leaves its arguments and every counter as it found them. -/
theorem refinement_reference : Cert.quiescent_ReferenceDeltaIdeal := fun m g _ =>
  (θ_run _ _ _).mono (fun _ h => ⟨fun c => (h c).2, sem_eq_zero_of_no_sems rfl _⟩) (Cert.ReferenceDeltaIdeal.Value.run m g)

end Cert.Proof
-- ==== Proof.lean ====
/- The proof of this directory's claims: the box head's class ensemble and its box refinement, each one call with its host
   code. The four kernel programs' frames are the generated runs; the two references' are runs of host operations; the two
   value claims are `EnsClaim` and `DeltaClaim`. Neither idealization rewrote an operation, so `preserves` is trivial. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelDelta
public import proofs.«01_k».proof.Proof.Gen.KernelDelta.Skeleton
public import proofs.«01_k».proof.Proof.Gen.KernelDelta.Launch
public import proofs.«01_k».proof.Proof.Gen.KernelDelta.Points
public import proofs.«01_k».proof.Proof.Gen.KernelDelta.Frame
public import proofs.«01_k».proof.Proof.Gen.KernelDeltaIdeal
public import proofs.«01_k».proof.Proof.Gen.KernelDeltaIdeal.Skeleton
public import proofs.«01_k».proof.Proof.Gen.KernelDeltaIdeal.Launch
public import proofs.«01_k».proof.Proof.Gen.KernelDeltaIdeal.Points
public import proofs.«01_k».proof.Proof.Gen.KernelDeltaIdeal.Frame
public import proofs.«01_k».proof.Proof.Gen.ReferenceDeltaIdeal
public import proofs.«01_k».proof.Proof.Gen.KernelIdeal.Value
public import proofs.«01_k».proof.Proof.Gen.KernelDeltaIdeal.Value
public import proofs.«01_k».proof.Proof.Gen.ReferenceIdeal.Read
public import proofs.«01_k».proof.Proof.Gen.ReferenceDeltaIdeal.Read
public import proofs.«01_k».proof.Proof.EnsClaim
public import proofs.«01_k».proof.Proof.DeltaClaim
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.KernelDelta.Gen.facts,
    Cert.KernelDeltaIdeal.Gen.facts, Cert.ReferenceDeltaIdeal.Gen.facts, maskFacts,
    fun m g _ => Cert.Kernel.Gen.frame m g, fun m g _ => Cert.KernelIdeal.Gen.frame m g, ensemble_reference,
    fun m g _ => Cert.KernelDelta.Gen.frame m g, fun m g _ => Cert.KernelDeltaIdeal.Gen.frame m g, refinement_reference,
    trivial, ensemble, trivial, refinement⟩

end Cert.Proof

end
